-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_scores [hPre_distinct_scores : Cert.Pre_distinct_scores.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_scores [hPre_distinct_scores : Cert.Pre_distinct_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_distinct_scores [hKernelIdeal : Cert.KernelIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_distinct_scores [hReferenceIdeal : Cert.ReferenceIdeal.Facts] [hPre_distinct_scores : Cert.Pre_distinct_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_distinct_scores [hKernelIdeal : Cert.KernelIdeal.Facts] [hReferenceIdeal : Cert.ReferenceIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_distinct_scores : Cert.Pre_distinct_scores.Facts),
    quiescent_Kernel (hKernel := hKernel)
    ∧ quiescent_KernelIdeal (hKernelIdeal := hKernelIdeal)
    ∧ quiescent_KernelIdeal_pre_distinct_scores (hKernelIdeal := hKernelIdeal) (hPre_distinct_scores := hPre_distinct_scores)
    ∧ quiescent_ReferenceIdeal (hReferenceIdeal := hReferenceIdeal)
    ∧ quiescent_ReferenceIdeal_pre_distinct_scores (hReferenceIdeal := hReferenceIdeal) (hPre_distinct_scores := hPre_distinct_scores)
    ∧ preserves_Kernel_KernelIdeal
    ∧ algebraic_KernelIdeal_ReferenceIdeal_pre_distinct_scores (hKernelIdeal := hKernelIdeal) (hReferenceIdeal := hReferenceIdeal) (hPre_distinct_scores := hPre_distinct_scores)
-- ==== Pre_distinct_scores.lean ====
abbrev S2x4096x2048 : Shape := ⟨3, ![2, 4096, 2048]⟩
abbrev S2x64x8x64 : Shape := ⟨4, ![2, 64, 8, 64]⟩
abbrev S2048 : Shape := ⟨1, ![2048]⟩
abbrev S512x2048 : Shape := ⟨2, ![512, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x512 : Shape := ⟨2, ![2048, 512]⟩
abbrev S2x4096x512 : Shape := ⟨3, ![2, 4096, 512]⟩
abbrev S2x4096x8x64 : Shape := ⟨4, ![2, 4096, 8, 64]⟩
abbrev S2x8x64x4096 : Shape := ⟨4, ![2, 8, 64, 4096]⟩
abbrev S2x4096x8x64x64 : Shape := ⟨5, ![2, 4096, 8, 64, 64]⟩
abbrev S2x4096x8x1x64 : Shape := ⟨5, ![2, 4096, 8, 1, 64]⟩
abbrev S2x4096x8x64x1 : Shape := ⟨5, ![2, 4096, 8, 64, 1]⟩

class Facts : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  transposes_S512x2048_S2048x512_1_0 : S512x2048.Transposes [1, 0] S2048x512
  shapeCasts_S2x4096x512_S2x4096x8x64 : S2x4096x512.ShapeCasts S2x4096x8x64
  transposes_S2x8x64x4096_S2x4096x8x64_0_3_1_2 : S2x8x64x4096.Transposes [0, 3, 1, 2] S2x4096x8x64
  bcast_S_S2x4096x8x64 : S_.BroadcastsInDim S2x4096x8x64 (![] : Fin 0 → Fin S2x4096x8x64.rank)
  bcast_S_S2x4096x8x64x64 : S_.BroadcastsInDim S2x4096x8x64x64 (![] : Fin 0 → Fin S2x4096x8x64x64.rank)
  bcast_S2x4096x8x64_S2x4096x8x1x64_0_1_2_4 : S2x4096x8x64.BroadcastsInDim S2x4096x8x1x64 (![0, 1, 2, 4] : Fin 4 → Fin S2x4096x8x1x64.rank)
  bcast_S2x4096x8x1x64_S2x4096x8x64x64_0_1_2_3_4 : S2x4096x8x1x64.BroadcastsInDim S2x4096x8x64x64 (![0, 1, 2, 3, 4] : Fin 5 → Fin S2x4096x8x64x64.rank)
  bcast_S2x4096x8x64_S2x4096x8x64x1_0_1_2_3 : S2x4096x8x64.BroadcastsInDim S2x4096x8x64x1 (![0, 1, 2, 3] : Fin 4 → Fin S2x4096x8x64x1.rank)
  bcast_S2x4096x8x64x1_S2x4096x8x64x64_0_1_2_3_4 : S2x4096x8x64x1.BroadcastsInDim S2x4096x8x64x64 (![0, 1, 2, 3, 4] : Fin 5 → Fin S2x4096x8x64x64.rank)
  dot_S2x4096x2048_S2048x512_S2x4096x512_2_0_01_1_n_n_wf : DotDims.WF S2x4096x2048 S2048x512 S2x4096x512 [2] [0] [0, 1] [1] [] []
  dot_S2x64x8x64_S2x4096x8x64_S2x8x64x4096_3_3_1_1_02_02_wf : DotDims.WF S2x64x8x64 S2x4096x8x64 S2x8x64x4096 [3] [3] [1] [1] [0, 2] [0, 2]

variable [Facts]

def dot_S2x4096x2048_S2048x512_S2x4096x512_2_0_01_1_n_n : DotDims S2x4096x2048 S2048x512 S2x4096x512 where
  lhsContracting := [2]
  rhsContracting := [0]
  lhsNonContracting := [0, 1]
  rhsNonContracting := [1]
  lhsBatch := []
  rhsBatch := []
  wf := dot_S2x4096x2048_S2048x512_S2x4096x512_2_0_01_1_n_n_wf
def dot_S2x64x8x64_S2x4096x8x64_S2x8x64x4096_3_3_1_1_02_02 : DotDims S2x64x8x64 S2x4096x8x64 S2x8x64x4096 where
  lhsContracting := [3]
  rhsContracting := [3]
  lhsNonContracting := [1]
  rhsNonContracting := [1]
  lhsBatch := [0, 2]
  rhsBatch := [0, 2]
  wf := dot_S2x64x8x64_S2x4096x8x64_S2x8x64x4096_3_3_1_1_02_02_wf
def fn_where {F : FTy → Type} [FloatOps F] (arg0 : IVec S2x4096x8x64x64 1) (arg1 : FVec F S_ .f32) (arg2 : FVec F S2x4096x8x1x64 .f32) : FVec F S2x4096x8x64x64 .f32 :=
  let v0 : FVec F S_ .f32 := id arg1
  let v1 : FVec F S2x4096x8x64x64 .f32 := broadcastInDim S2x4096x8x64x64 ![] bcast_S_S2x4096x8x64x64 v0
  let v2 : FVec F S2x4096x8x64x64 .f32 := broadcastInDim S2x4096x8x64x64 ![0, 1, 2, 3, 4] bcast_S2x4096x8x1x64_S2x4096x8x64x64_0_1_2_3_4 arg2
  let v3 : FVec F S2x4096x8x64x64 .f32 := select arg0 v1 v2
  v3

def fn_part1 {F : FTy → Type} [FloatOps F] (main_v19 : FVec F S2x4096x8x64 .f32) : IVec S2x4096x8x64x64 1 :=
  let main_v20 : IVec S2x4096x8x64x64 32 := iotaInDim S2x4096x8x64x64 32 1
  let main_v21 : IVec S2x4096x8x64x64 32 := iotaInDim S2x4096x8x64x64 32 3
  let main_v22 : IVec S2x4096x8x64x64 32 := iotaInDim S2x4096x8x64x64 32 4
  let main_c : IVec S_ 32 := constantI S_ 32 1088#32
  let main_v23 : IVec S2x4096x8x64x64 32 := broadcastInDim S2x4096x8x64x64 ![] bcast_S_S2x4096x8x64x64 main_c
  let main_v24 : IVec S2x4096x8x64x64 1 := cmpi .slt main_v20 main_v23
  let main_v25 : IVec S2x4096x8x64x64 32 := maxsi main_v21 main_v22
  let main_c_3 : IVec S_ 32 := constantI S_ 32 1#32
  let main_v26 : IVec S2x4096x8x64x64 32 := broadcastInDim S2x4096x8x64x64 ![] bcast_S_S2x4096x8x64x64 main_c_3
  let main_v27 : IVec S2x4096x8x64x64 32 := addi main_v25 main_v26
  let main_c_4 : IVec S_ 32 := constantI S_ 32 64#32
  let main_v28 : IVec S2x4096x8x64x64 32 := broadcastInDim S2x4096x8x64x64 ![] bcast_S_S2x4096x8x64x64 main_c_4
  let main_v29 : IVec S2x4096x8x64x64 32 := muli main_v27 main_v28
  let main_v30 : IVec S2x4096x8x64x64 1 := cmpi .slt main_v20 main_v29
  let main_v31 : IVec S2x4096x8x64x64 1 := cmpi .eq main_v21 main_v22
  let main_v32 : FVec F S2x4096x8x1x64 .f32 := broadcastInDim S2x4096x8x1x64 ![0, 1, 2, 4] bcast_S2x4096x8x64_S2x4096x8x1x64_0_1_2_4 main_v19
  let main_cst_5 : FVec F S_ .f32 := constant S_ .f32 0xFF800000#32
  let main_v33 : FVec F S2x4096x8x64x64 .f32 := fn_where (F := F) main_v31 main_cst_5 main_v32
  let main_v34 : IVec S2x4096x8x64x64 1 := ori main_v24 main_v30
  let main_v35 : FVec F S2x4096x8x64x1 .f32 := broadcastInDim S2x4096x8x64x1 ![0, 1, 2, 3] bcast_S2x4096x8x64_S2x4096x8x64x1_0_1_2_3 main_v19
  let main_v36 : FVec F S2x4096x8x64x64 .f32 := broadcastInDim S2x4096x8x64x64 ![0, 1, 2, 3, 4] bcast_S2x4096x8x64x1_S2x4096x8x64x64_0_1_2_3_4 main_v35
  let main_v37 : IVec S2x4096x8x64x64 1 := cmpf .une main_v36 main_v33
  let main_v38 : IVec S2x4096x8x64x64 1 := ori main_v34 main_v37
  main_v38

def fn {F : FTy → Type} [FloatOps F] (main_arg0 : FVec F S2x4096x2048 .f32) (main_arg1 : FVec F S2x64x8x64 .f32) (main_arg2 : FVec F S2048 .f32) (main_arg3 : FVec F S512x2048 .f32) : IVec S2x4096x8x64x64 1 :=
  let main_v0 : FVec F S2x4096x2048 .f32 := mulf main_arg0 main_arg0
  let main_cst : FVec F S_ .f32 := constant S_ .f32 0x00000000#32
  let main_v1 : FVec F S2x4096 .f32 := (fun x v => Host.reduceAdd x v reducesTo_S2x4096x2048_S2x4096_d2 h_S_) main_v0 main_cst
  let main_v2 : FVec F S2x4096x1 .f32 := broadcastInDim S2x4096x1 ![0, 1] bcast_S2x4096_S2x4096x1_0_1 main_v1
  let main_cst_0 : FVec F S_ .f32 := constant S_ .f32 0x45000000#32
  let main_v3 : FVec F S2x4096x1 .f32 := broadcastInDim S2x4096x1 ![] bcast_S_S2x4096x1 main_cst_0
  let main_v4 : FVec F S2x4096x1 .f32 := Host.divf main_v2 main_v3
  let main_cst_1 : FVec F S_ .f32 := constant S_ .f32 0x358637BD#32
  let main_v5 : FVec F S2x4096x1 .f32 := broadcastInDim S2x4096x1 ![] bcast_S_S2x4096x1 main_cst_1
  let main_v6 : FVec F S2x4096x1 .f32 := addf main_v4 main_v5
  let main_v7 : FVec F S2x4096x1 .f32 := Host.rsqrt main_v6
  let main_v8 : FVec F S2x4096x2048 .f32 := broadcastInDim S2x4096x2048 ![0, 1, 2] bcast_S2x4096x1_S2x4096x2048_0_1_2 main_v7
  let main_v9 : FVec F S2x4096x2048 .f32 := mulf main_arg0 main_v8
  let main_v10 : FVec F S1x1x2048 .f32 := broadcastInDim S1x1x2048 ![2] bcast_S2048_S1x1x2048_2 main_arg2
  let main_v11 : FVec F S2x4096x2048 .f32 := broadcastInDim S2x4096x2048 ![0, 1, 2] bcast_S1x1x2048_S2x4096x2048_0_1_2 main_v10
  let main_v12 : FVec F S2x4096x2048 .f32 := mulf main_v11 main_v9
  let main_v13 : FVec F S2048x512 .f32 := (transpose S2048x512 [1, 0] · transposes_S512x2048_S2048x512_1_0) main_arg3
  let main_v14 : FVec F S2x4096x512 .f32 := (fun l r => Host.dotGeneral dot_S2x4096x2048_S2048x512_S2x4096x512_2_0_01_1_n_n none l r) main_v12 main_v13
  let main_v15 : FVec F S2x4096x8x64 .f32 := shapeCast S2x4096x8x64 main_v14 shapeCasts_S2x4096x512_S2x4096x8x64
  let main_v16 : FVec F S2x8x64x4096 .f32 := (fun l r => Host.dotGeneral dot_S2x64x8x64_S2x4096x8x64_S2x8x64x4096_3_3_1_1_02_02 none l r) main_arg1 main_v15
  let main_v17 : FVec F S2x4096x8x64 .f32 := (transpose S2x4096x8x64 [0, 3, 1, 2] · transposes_S2x8x64x4096_S2x4096x8x64_0_3_1_2) main_v16
  let main_cst_2 : FVec F S_ .f32 := constant S_ .f32 0x41000000#32
  let main_v18 : FVec F S2x4096x8x64 .f32 := broadcastInDim S2x4096x8x64 ![] bcast_S_S2x4096x8x64 main_cst_2
  let main_v19 : FVec F S2x4096x8x64 .f32 := Host.divf main_v17 main_v18
  fn_part1 (F := F) main_v19
-- ==== Kernel.lean ====
abbrev S2x4096x2048 : Shape := ⟨3, ![2, 4096, 2048]⟩
abbrev S2x64x8x64 : Shape := ⟨4, ![2, 64, 8, 64]⟩
abbrev S2048 : Shape := ⟨1, ![2048]⟩
abbrev S512x2048 : Shape := ⟨2, ![512, 2048]⟩
abbrev S2048x512 : Shape := ⟨2, ![2048, 512]⟩
abbrev S2x8x64x64 : Shape := ⟨4, ![2, 8, 64, 64]⟩
abbrev S1x2048 : Shape := ⟨2, ![1, 2048]⟩
abbrev S2x8x16x1024 : Shape := ⟨4, ![2, 8, 16, 1024]⟩
abbrev S1x1024x2048 : Shape := ⟨3, ![1, 1024, 2048]⟩
abbrev S1x8x64x64 : Shape := ⟨4, ![1, 8, 64, 64]⟩
abbrev S1x8x16x1024 : Shape := ⟨4, ![1, 8, 16, 1024]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩
abbrev S1x1024 : Shape := ⟨2, ![1, 1024]⟩
abbrev S16x1 : Shape := ⟨2, ![16, 1]⟩
abbrev S16x1024 : Shape := ⟨2, ![16, 1024]⟩
abbrev S16x16 : Shape := ⟨2, ![16, 16]⟩
abbrev S1024x64 : Shape := ⟨2, ![1024, 64]⟩
abbrev S1x1x16x64 : Shape := ⟨4, ![1, 1, 16, 64]⟩
abbrev S16x64 : Shape := ⟨2, ![16, 64]⟩
abbrev S16x16x1024 : Shape := ⟨3, ![16, 16, 1024]⟩
abbrev S1x16x1024 : Shape := ⟨3, ![1, 16, 1024]⟩
abbrev S1x1x16x1024 : Shape := ⟨4, ![1, 1, 16, 1024]⟩
abbrev S32x1 : Shape := ⟨2, ![32, 1]⟩
abbrev S32x1024 : Shape := ⟨2, ![32, 1024]⟩
abbrev S32x32 : Shape := ⟨2, ![32, 32]⟩
abbrev S1x1x32x64 : Shape := ⟨4, ![1, 1, 32, 64]⟩
abbrev S32x64 : Shape := ⟨2, ![32, 64]⟩
abbrev S16x32x1024 : Shape := ⟨3, ![16, 32, 1024]⟩
abbrev S1x32x1024 : Shape := ⟨3, ![1, 32, 1024]⟩
abbrev S48x1 : Shape := ⟨2, ![48, 1]⟩
abbrev S48x1024 : Shape := ⟨2, ![48, 1024]⟩
abbrev S48x48 : Shape := ⟨2, ![48, 48]⟩
abbrev S1x1x48x64 : Shape := ⟨4, ![1, 1, 48, 64]⟩
abbrev S48x64 : Shape := ⟨2, ![48, 64]⟩
abbrev S16x48x1024 : Shape := ⟨3, ![16, 48, 1024]⟩
abbrev S1x48x1024 : Shape := ⟨3, ![1, 48, 1024]⟩
abbrev S64x1 : Shape := ⟨2, ![64, 1]⟩
abbrev S64x1024 : Shape := ⟨2, ![64, 1024]⟩
abbrev S64x64 : Shape := ⟨2, ![64, 64]⟩
abbrev S1x1x64x64 : Shape := ⟨4, ![1, 1, 64, 64]⟩
abbrev S16x64x1024 : Shape := ⟨3, ![16, 64, 1024]⟩
abbrev S1x64x1024 : Shape := ⟨3, ![1, 64, 1024]⟩
abbrev S2x8x16x4096 : Shape := ⟨4, ![2, 8, 16, 4096]⟩
abbrev S2x4096x8x16 : Shape := ⟨4, ![2, 4096, 8, 16]⟩

abbrev nBuf : Space → Nat
  | .hbm => 19
  | .vmem => 40
  | .smem => 0
  | _ => 0

abbrev bufTy : (tb : Table) → Fin (tcTables nBuf tb) → BufTy
  | .hbm, ⟨0, _⟩ => ⟨S2x4096x2048, .f32⟩
  | .hbm, ⟨1, _⟩ => ⟨S2x64x8x64, .f32⟩
  | .hbm, ⟨2, _⟩ => ⟨S2048, .f32⟩
  | .hbm, ⟨3, _⟩ => ⟨S512x2048, .f32⟩
  | .hbm, ⟨4, _⟩ => ⟨S2048x512, .f32⟩
  | .hbm, ⟨5, _⟩ => ⟨S2x8x64x64, .f32⟩
  | .hbm, ⟨6, _⟩ => ⟨S1x2048, .f32⟩
  | .hbm, ⟨7, _⟩ => ⟨S2x8x16x1024, .f32⟩
  | .hbm, ⟨8, _⟩ => ⟨S2x8x16x1024, .i32⟩
  | .hbm, ⟨9, _⟩ => ⟨S2x8x16x1024, .f32⟩
  | .hbm, ⟨10, _⟩ => ⟨S2x8x16x1024, .i32⟩
  | .hbm, ⟨11, _⟩ => ⟨S2x8x16x1024, .f32⟩
  | .hbm, ⟨12, _⟩ => ⟨S2x8x16x1024, .i32⟩
  | .hbm, ⟨13, _⟩ => ⟨S2x8x16x1024, .f32⟩
  | .hbm, ⟨14, _⟩ => ⟨S2x8x16x1024, .i32⟩
  | .hbm, ⟨15, _⟩ => ⟨S2x8x16x4096, .f32⟩
  | .hbm, ⟨16, _⟩ => ⟨S2x8x16x4096, .i32⟩
  | .hbm, ⟨17, _⟩ => ⟨S2x4096x8x16, .f32⟩
  | .hbm, ⟨18, _⟩ => ⟨S2x4096x8x16, .i32⟩
  | .local _ .vmem, ⟨0, _⟩ => ⟨S1x1024x2048, .f32⟩
  | .local _ .vmem, ⟨1, _⟩ => ⟨S1x1024x2048, .f32⟩
  | .local _ .vmem, ⟨2, _⟩ => ⟨S2048x512, .f32⟩
  | .local _ .vmem, ⟨3, _⟩ => ⟨S1x8x64x64, .f32⟩
  | .local _ .vmem, ⟨4, _⟩ => ⟨S1x8x64x64, .f32⟩
  | .local _ .vmem, ⟨5, _⟩ => ⟨S1x2048, .f32⟩
  | .local _ .vmem, ⟨6, _⟩ => ⟨S1x8x16x1024, .f32⟩
  | .local _ .vmem, ⟨7, _⟩ => ⟨S1x8x16x1024, .f32⟩
  | .local _ .vmem, ⟨8, _⟩ => ⟨S1x8x16x1024, .i32⟩
  | .local _ .vmem, ⟨9, _⟩ => ⟨S1x8x16x1024, .i32⟩
  | .local _ .vmem, ⟨10, _⟩ => ⟨S1x1024x2048, .f32⟩
  | .local _ .vmem, ⟨11, _⟩ => ⟨S1x1024x2048, .f32⟩
  | .local _ .vmem, ⟨12, _⟩ => ⟨S2048x512, .f32⟩
  | .local _ .vmem, ⟨13, _⟩ => ⟨S1x8x64x64, .f32⟩
  | .local _ .vmem, ⟨14, _⟩ => ⟨S1x8x64x64, .f32⟩
  | .local _ .vmem, ⟨15, _⟩ => ⟨S1x2048, .f32⟩
  | .local _ .vmem, ⟨16, _⟩ => ⟨S1x8x16x1024, .f32⟩
  | .local _ .vmem, ⟨17, _⟩ => ⟨S1x8x16x1024, .f32⟩
  | .local _ .vmem, ⟨18, _⟩ => ⟨S1x8x16x1024, .i32⟩
  | .local _ .vmem, ⟨19, _⟩ => ⟨S1x8x16x1024, .i32⟩
  | .local _ .vmem, ⟨20, _⟩ => ⟨S1x1024x2048, .f32⟩
  | .local _ .vmem, ⟨21, _⟩ => ⟨S1x1024x2048, .f32⟩
  | .local _ .vmem, ⟨22, _⟩ => ⟨S2048x512, .f32⟩
  | .local _ .vmem, ⟨23, _⟩ => ⟨S1x8x64x64, .f32⟩
  | .local _ .vmem, ⟨24, _⟩ => ⟨S1x8x64x64, .f32⟩
  | .local _ .vmem, ⟨25, _⟩ => ⟨S1x2048, .f32⟩
  | .local _ .vmem, ⟨26, _⟩ => ⟨S1x8x16x1024, .f32⟩
  | .local _ .vmem, ⟨27, _⟩ => ⟨S1x8x16x1024, .f32⟩
  | .local _ .vmem, ⟨28, _⟩ => ⟨S1x8x16x1024, .i32⟩
  | .local _ .vmem, ⟨29, _⟩ => ⟨S1x8x16x1024, .i32⟩
  | .local _ .vmem, ⟨30, _⟩ => ⟨S1x1024x2048, .f32⟩
  | .local _ .vmem, ⟨31, _⟩ => ⟨S1x1024x2048, .f32⟩
  | .local _ .vmem, ⟨32, _⟩ => ⟨S2048x512, .f32⟩
  | .local _ .vmem, ⟨33, _⟩ => ⟨S1x8x64x64, .f32⟩
  | .local _ .vmem, ⟨34, _⟩ => ⟨S1x8x64x64, .f32⟩
  | .local _ .vmem, ⟨35, _⟩ => ⟨S1x2048, .f32⟩
  | .local _ .vmem, ⟨36, _⟩ => ⟨S1x8x16x1024, .f32⟩
  | .local _ .vmem, ⟨37, _⟩ => ⟨S1x8x16x1024, .f32⟩
  | .local _ .vmem, ⟨38, _⟩ => ⟨S1x8x16x1024, .i32⟩
  | .local _ .vmem, ⟨39, _⟩ => ⟨S1x8x16x1024, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5_0 : Ref sig .tc := ⟨.hbm, 11, rfl⟩
abbrev main_v5_1 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x16x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x8x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x8x16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x16x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x8x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x8x16x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x16x1024 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x8x64x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x8x16x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x8x16x1024 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S2x4096x2048 : Shape := ⟨3, ![2, 4096, 2048]⟩
abbrev S2x64x8x64 : Shape := ⟨4, ![2, 64, 8, 64]⟩
abbrev S2048 : Shape := ⟨1, ![2048]⟩
abbrev S512x2048 : Shape := ⟨2, ![512, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x512 : Shape := ⟨2, ![2048, 512]⟩
abbrev S2x4096x512 : Shape := ⟨3, ![2, 4096, 512]⟩
abbrev S2x4096x8x64 : Shape := ⟨4, ![2, 4096, 8, 64]⟩
abbrev S2x8x64x4096 : Shape := ⟨4, ![2, 8, 64, 4096]⟩
abbrev S4096 : Shape := ⟨1, ![4096]⟩
abbrev S1x4096x1x1 : Shape := ⟨4, ![1, 4096, 1, 1]⟩
abbrev S64 : Shape := ⟨1, ![64]⟩
abbrev S1x1x1x64 : Shape := ⟨4, ![1, 1, 1, 64]⟩
abbrev S1x4096x1x64 : Shape := ⟨4, ![1, 4096, 1, 64]⟩
abbrev S2x4096x8x16 : Shape := ⟨4, ![2, 4096, 8, 16]⟩
abbrev S16 : Shape := ⟨1, ![16]⟩
abbrev S1x1x1x16 : Shape := ⟨4, ![1, 1, 1, 16]⟩
abbrev S1x4096x1x16 : Shape := ⟨4, ![1, 4096, 1, 16]⟩
abbrev S2x4096x8x16x1 : Shape := ⟨5, ![2, 4096, 8, 16, 1]⟩
abbrev S1 : Shape := ⟨1, ![1]⟩
abbrev S1x1x1x1x1 : Shape := ⟨5, ![1, 1, 1, 1, 1]⟩

abbrev nBuf : Space → Nat
  | .hbm => 138
  | .vmem => 0
  | .smem => 0
  | _ => 0

abbrev hbmTy0_0 (i : Nat) : BufTy := match i % 128 with
  | 0 => ⟨S2x4096x2048, .f32⟩
  | 1 => ⟨S2x64x8x64, .f32⟩
  | 2 => ⟨S2048, .f32⟩
  | 3 => ⟨S512x2048, .f32⟩
  | 4 => ⟨S2x4096x2048, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S_, .f32⟩
  | 12 => ⟨S2x4096x1, .f32⟩
  | 13 => ⟨S2x4096x1, .f32⟩
  | 14 => ⟨S2x4096x1, .f32⟩
  | 15 => ⟨S2x4096x2048, .f32⟩
  | 16 => ⟨S2x4096x2048, .f32⟩
  | 17 => ⟨S1x1x2048, .f32⟩
  | 18 => ⟨S2x4096x2048, .f32⟩
  | 19 => ⟨S2x4096x2048, .f32⟩
  | 20 => ⟨S2048x512, .f32⟩
  | 21 => ⟨S2x4096x512, .f32⟩
  | 22 => ⟨S2x4096x8x64, .f32⟩
  | 23 => ⟨S2x8x64x4096, .f32⟩
  | 24 => ⟨S2x4096x8x64, .f32⟩
  | 25 => ⟨S_, .f32⟩
  | 26 => ⟨S2x4096x8x64, .f32⟩
  | 27 => ⟨S2x4096x8x64, .f32⟩
  | 28 => ⟨S4096, .i32⟩
  | 29 => ⟨S1x4096x1x1, .i32⟩
  | 30 => ⟨S64, .i32⟩
  | 31 => ⟨S1x1x1x64, .i32⟩
  | 32 => ⟨S_, .i32⟩
  | 33 => ⟨S1x1x1x64, .i32⟩
  | 34 => ⟨S1x1x1x64, .i32⟩
  | 35 => ⟨S_, .i32⟩
  | 36 => ⟨S1x1x1x64, .i32⟩
  | 37 => ⟨S1x1x1x64, .i32⟩
  | 38 => ⟨S1x4096x1x64, .i32⟩
  | 39 => ⟨S1x4096x1x64, .i32⟩
  | 40 => ⟨S1x4096x1x64, .i1⟩
  | 41 => ⟨S2x4096x8x64, .i1⟩
  | 42 => ⟨S_, .f32⟩
  | 43 => ⟨S_, .f32⟩
  | 44 => ⟨S2x4096x8x64, .f32⟩
  | 45 => ⟨S2x4096x8x64, .f32⟩
  | 46 => ⟨S2x4096x8x16, .f32⟩
  | 47 => ⟨S2x4096x8x16, .i32⟩
  | 48 => ⟨S16, .i32⟩
  | 49 => ⟨S_, .i32⟩
  | 50 => ⟨S_, .i32⟩
  | 51 => ⟨S1x4096x1x1, .i32⟩
  | 52 => ⟨S1x4096x1x1, .i32⟩
  | 53 => ⟨S1x4096x1x1, .i32⟩
  | 54 => ⟨S_, .i32⟩
  | 55 => ⟨S1x4096x1x1, .i32⟩
  | 56 => ⟨S1x4096x1x1, .i1⟩
  | 57 => ⟨S1x4096x1x1, .i32⟩
  | 58 => ⟨S1x4096x1x1, .i32⟩
  | 59 => ⟨S_, .i32⟩
  | 60 => ⟨S1x4096x1x1, .i32⟩
  | 61 => ⟨S1x4096x1x1, .i1⟩
  | 62 => ⟨S1x4096x1x1, .i1⟩
  | 63 => ⟨S_, .i32⟩
  | 64 => ⟨S1x4096x1x1, .i32⟩
  | 65 => ⟨S1x4096x1x1, .i32⟩
  | 66 => ⟨S1x4096x1x1, .i32⟩
  | 67 => ⟨S1x1x1x16, .i32⟩
  | 68 => ⟨S1x4096x1x16, .i32⟩
  | 69 => ⟨S1x4096x1x16, .i32⟩
  | 70 => ⟨S1x4096x1x16, .i1⟩
  | 71 => ⟨S2x4096x8x16, .i1⟩
  | 72 => ⟨S_, .i32⟩
  | 73 => ⟨S_, .i32⟩
  | 74 => ⟨S2x4096x8x16, .i32⟩
  | 75 => ⟨S2x4096x8x16, .i32⟩
  | 76 => ⟨S2x4096x8x16, .i32⟩
  | 77 => ⟨S2x4096x8x16, .i32⟩
  | 78 => ⟨S2x4096x8x16, .i32⟩
  | 79 => ⟨S_, .i32⟩
  | 80 => ⟨S2x4096x8x16, .i32⟩
  | 81 => ⟨S2x4096x8x16, .i1⟩
  | 82 => ⟨S_, .i32⟩
  | 83 => ⟨S_, .i32⟩
  | 84 => ⟨S2x4096x8x16, .i32⟩
  | 85 => ⟨S2x4096x8x16, .i32⟩
  | 86 => ⟨S_, .i32⟩
  | 87 => ⟨S2x4096x8x16, .i32⟩
  | 88 => ⟨S2x4096x8x16, .i1⟩
  | 89 => ⟨S_, .i32⟩
  | 90 => ⟨S2x4096x8x16, .i32⟩
  | 91 => ⟨S2x4096x8x16, .i32⟩
  | 92 => ⟨S2x4096x8x16, .i32⟩
  | 93 => ⟨S2x4096x8x16x1, .i32⟩
  | 94 => ⟨S1, .i32⟩
  | 95 => ⟨S_, .i32⟩
  | 96 => ⟨S2x4096x8x16x1, .i32⟩
  | 97 => ⟨S2x4096x8x16x1, .i1⟩
  | 98 => ⟨S1x1x1x1x1, .i32⟩
  | 99 => ⟨S2x4096x8x16x1, .i32⟩
  | 100 => ⟨S2x4096x8x16x1, .i1⟩
  | 101 => ⟨S2x4096x8x16x1, .i1⟩
  | 102 => ⟨S_, .i1⟩
  | 103 => ⟨S2x4096x8x16, .i1⟩
  | 104 => ⟨S2x4096x8x16, .f32⟩
  | 105 => ⟨S_, .f32⟩
  | 106 => ⟨S2x4096x8x16, .f32⟩
  | 107 => ⟨S2x4096x8x16, .f32⟩
  | 108 => ⟨S_, .f32⟩
  | 109 => ⟨S_, .f32⟩
  | 110 => ⟨S2x4096x8x16, .f32⟩
  | 111 => ⟨S2x4096x8x16, .f32⟩
  | 112 => ⟨S_, .f32⟩
  | 113 => ⟨S2x4096x8x16, .f32⟩
  | 114 => ⟨S2x4096x8x16, .i1⟩
  | 115 => ⟨S_, .f32⟩
  | 116 => ⟨S2x4096x8x16, .f32⟩
  | 117 => ⟨S2x4096x8x16, .f32⟩
  | 118 => ⟨S_, .f32⟩
  | 119 => ⟨S2x4096x8x16, .f32⟩
  | 120 => ⟨S2x4096x8x16, .f32⟩
  | 121 => ⟨S2x4096x8x16, .f32⟩
  | 122 => ⟨S2x4096x8x16, .f32⟩
  | 123 => ⟨S2x4096x8x16, .i1⟩
  | 124 => ⟨S2x4096x8x16, .f32⟩
  | 125 => ⟨S2x4096x8x16, .f32⟩
  | 126 => ⟨S2x4096x8x16, .f32⟩
  | 127 => ⟨S2x4096x8x16, .f32⟩
  | _ => ⟨S2x4096x2048, .f32⟩

abbrev hbmTy0_1 (i : Nat) : BufTy := match i % 128 with
  | 0 => ⟨S2x4096x8x16, .f32⟩
  | 1 => ⟨S2x4096x8x16, .f32⟩
  | 2 => ⟨S2x4096x8x16, .f32⟩
  | 3 => ⟨S2x4096x8x16, .f32⟩
  | 4 => ⟨S2x4096x8x16, .f32⟩
  | 5 => ⟨S_, .f32⟩
  | 6 => ⟨S_, .f32⟩
  | 7 => ⟨S2x4096x8x16, .f32⟩
  | 8 => ⟨S2x4096x8x16, .f32⟩
  | 9 => ⟨S2x4096x8x16, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v32 : Ref sig .tc := ⟨.hbm, 45, rfl⟩
abbrev main_values : Ref sig .tc := ⟨.hbm, 46, rfl⟩
abbrev main_indices : Ref sig .tc := ⟨.hbm, 47, rfl⟩
abbrev main_v33 : Ref sig .tc := ⟨.hbm, 48, rfl⟩
abbrev main_c_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_6 : Ref sig .tc := ⟨.hbm, 72, rfl⟩
abbrev main_call2_v0 : Ref sig .tc := ⟨.hbm, 73, rfl⟩
abbrev main_call2_v1 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_7 : Ref sig .tc := ⟨.hbm, 79, rfl⟩
abbrev main_v44 : Ref sig .tc := ⟨.hbm, 80, rfl⟩
abbrev main_v45 : Ref sig .tc := ⟨.hbm, 81, rfl⟩
abbrev main_c_8 : Ref sig .tc := ⟨.hbm, 82, rfl⟩
abbrev main_call4_v0 : Ref sig .tc := ⟨.hbm, 83, rfl⟩
abbrev main_call4_v1 : Ref sig .tc := ⟨.hbm, 84, rfl⟩
abbrev main_v46 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_cst : Ref sig .tc := ⟨.hbm, 105, rfl⟩
abbrev main_call5_v14 : Ref sig .tc := ⟨.hbm, 106, rfl⟩
abbrev main_v47 : Ref sig .tc := ⟨.hbm, 107, rfl⟩
abbrev main_cst_9 : Ref sig .tc := ⟨.hbm, 108, rfl⟩
abbrev main_call6_v0 : Ref sig .tc := ⟨.hbm, 109, rfl⟩
abbrev main_call6_v1 : Ref sig .tc := ⟨.hbm, 110, rfl⟩
abbrev main_v48 : Ref sig .tc := ⟨.hbm, 111, rfl⟩
abbrev main_cst_10 : Ref sig .tc := ⟨.hbm, 112, rfl⟩
abbrev main_v49 : Ref sig .tc := ⟨.hbm, 113, rfl⟩
abbrev main_v50 : Ref sig .tc := ⟨.hbm, 114, rfl⟩
abbrev main_cst_11 : Ref sig .tc := ⟨.hbm, 115, rfl⟩
abbrev main_v51 : Ref sig .tc := ⟨.hbm, 116, rfl⟩
abbrev main_v52 : Ref sig .tc := ⟨.hbm, 117, rfl⟩
abbrev main_call7_cst : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_call7_v5 : Ref sig .tc := ⟨.hbm, 124, rfl⟩
abbrev main_call7_v6 : Ref sig .tc := ⟨.hbm, 125, rfl⟩
abbrev main_call7_v7 : Ref sig .tc := ⟨.hbm, 126, rfl⟩
abbrev main_call7_v8 : Ref sig .tc := ⟨.hbm, 127, rfl⟩
abbrev main_call7_v9 : Ref sig .tc := ⟨.hbm, 128, rfl⟩
abbrev main_call7_v10 : Ref sig .tc := ⟨.hbm, 129, rfl⟩
abbrev main_call7_v11 : Ref sig .tc := ⟨.hbm, 130, rfl⟩
abbrev main_v53 : Ref sig .tc := ⟨.hbm, 131, rfl⟩
abbrev main_v54 : Ref sig .tc := ⟨.hbm, 132, rfl⟩
abbrev main_call9_call0_cst : Ref sig .tc := ⟨.hbm, 133, rfl⟩
abbrev main_call9_call0_v0 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩

abbrev nD : Nat := 1
abbrev τ : Topo := Topo.v7x

variable {F : FTy → Type} [FloatOps F]
-- ==== Proof.KernelRun.lean ====
/- The kernel's run, with every array of the device's memory read at the end: what the launch leaves is the last of the
   generated boundary contents. -/
module

public import proofs.«01_k».proof.Proof.Gen.KernelIdeal.Frame

@[expose] public section

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.KernelIdeal Cert.KernelIdeal.Gen

variable {F : FTy → Type} [FloatOps F]
/-- The assertions of the launch. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array of a device at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.KernelIdeal.Final

end
-- ==== Proof.HeadFn.lean ====
/- What one launch's body computes, as pure functions of the blocks it reads, with the number `n` of chunk rows a launch
   looks at (16, 32, 48 or 64) a parameter: the projected queries, the masked scores of one head, the sixteen
   knock-out rounds, the selection, and the two values stored per slot. -/
module

public import Idealize.ShloMosaic.PureOps
public import Idealize.ShloMosaic.Lib.Pipeline.FrameBody

@[expose] public section

set_option maxRecDepth 16384

noncomputable section

namespace Cert.Head

open Idealize.ShloMosaic

/-- A block of `n` chunks by the 1024 positions of a row block. -/
abbrev Sn (n : ℕ) : Shape := ⟨2, ![n, 1024]⟩
/-- One column of `n` chunks. -/
abbrev Sc (n : ℕ) : Shape := ⟨2, ![n, 1]⟩
/-- A chunk-by-chunk square. -/
abbrev Sq (n : ℕ) : Shape := ⟨2, ![n, n]⟩
/-- Slots by chunks by positions. -/
abbrev S3 (n : ℕ) : Shape := ⟨3, ![16, n, 1024]⟩
/-- The same with one slot. -/
abbrev S31 (n : ℕ) : Shape := ⟨3, ![1, n, 1024]⟩
/-- One head's landmarks as loaded. -/
abbrev Sl (n : ℕ) : Shape := ⟨4, ![1, 1, n, 64]⟩
/-- One head's landmarks as a matrix. -/
abbrev Sm (n : ℕ) : Shape := ⟨2, ![n, 64]⟩
/-- One value per position. -/
abbrev Sp : Shape := ⟨1, ![1024]⟩
/-- The same as a row. -/
abbrev Sr : Shape := ⟨2, ![1, 1024]⟩
/-- Slots by positions. -/
abbrev So : Shape := ⟨2, ![16, 1024]⟩
/-- Slots by positions, as stored for one head. -/
abbrev St : Shape := ⟨4, ![1, 1, 16, 1024]⟩
/-- One head's slice of the projected queries. -/
abbrev Sqh : Shape := ⟨2, ![1024, 64]⟩
/-- All projected queries of a row block. -/
abbrev SQ : Shape := ⟨2, ![1024, 512]⟩
/-- A row block of the hidden states, as loaded. -/
abbrev Sx : Shape := ⟨3, ![1, 1024, 2048]⟩
/-- The same as a matrix. -/
abbrev Sx2 : Shape := ⟨2, ![1024, 2048]⟩
/-- One column over the row block. -/
abbrev Sx1 : Shape := ⟨2, ![1024, 1]⟩
/-- The norm weight as a row. -/
abbrev Sw2 : Shape := ⟨2, ![1, 2048]⟩
/-- The norm weight as a vector. -/
abbrev Sw1 : Shape := ⟨1, ![2048]⟩
/-- The transposed projection. -/
abbrev Swt : Shape := ⟨2, ![2048, 512]⟩
/-- All heads' landmarks of one batch entry. -/
abbrev Slm : Shape := ⟨4, ![1, 8, 64, 64]⟩
/-- A launch's output block. -/
abbrev Sob : Shape := ⟨4, ![1, 8, 16, 1024]⟩

/-- The shape facts the operations take, at `n` chunks. -/
class HeadFacts (n : ℕ) : Prop where
  bRow : Sr.Broadcasts (Sn n)
  bCol : (Sc n).Broadcasts (Sn n)
  iCol : (Sc n).Iotas .tc 32 [0]
  iRow : Sr.Iotas .tc 32 [1]
  i0 : (Sq n).Iotas .tc 32 [0]
  i1 : (Sq n).Iotas .tc 32 [1]
  castLm : (Sl n).ShapeCasts (Sm n)
  redMax : (Sn n).Reduces [0] Sp
  castRow : Sp.ShapeCasts Sr
  i3 : (S3 n).Iotas .tc 32 [0]
  cast3 : (Sn n).ShapeCasts (S31 n)
  cast33 : (S31 n).ShapeCasts (S31 n)
  b3 : (S31 n).Broadcasts (S3 n)
  red3 : (S3 n).Reduces [1] So
  castOut : So.ShapeCasts St
  wfS : DotDims.WF (Sm n) Sqh (Sn n) [1] [1] [0] [0] [] []
  wfC : DotDims.WF (Sq n) (Sn n) (Sn n) [1] [0] [0] [1] [] []
  inbL : ∀ h : Fin 8, ∀ a, (![0, h.val, 0, 0] : Fin 4 → ℕ) a + (Sl n).size a ≤ Slm.size a
  lt132 : 1 < 32

/-- The shape facts of the projection, common to the launches. -/
class ProjFacts : Prop where
  castX : Sx.ShapeCasts Sx2
  redX : Sx2.Reduces [1] Sp
  castM : Sp.ShapeCasts Sx1
  bX : Sx1.Broadcasts Sx2
  castW : Sw2.ShapeCasts Sw1
  castW' : Sw1.ShapeCasts Sw2
  bW : Sw2.Broadcasts Sx2
  castWt : Swt.ShapeCasts Swt
  wfQ : DotDims.WF Sx2 Swt SQ [1] [0] [0] [1] [] []
  sl : ∀ h : Fin 8, SQ.Slices ![0, 64 * h.val] Sqh
  inbX : ∀ a, (![0, 0, 0] : Fin 3 → ℕ) a + Sx.size a ≤ Sx.size a
  inbW : ∀ a, (![0, 0] : Fin 2 → ℕ) a + Sw2.size a ≤ Sw2.size a
  inbWt : ∀ a, (![0, 0] : Fin 2 → ℕ) a + Swt.size a ≤ Swt.size a
  inbO : ∀ h : Fin 8, ∀ a, (![0, h.val, 0, 0] : Fin 4 → ℕ) a + St.size a ≤ Sob.size a

variable {F : FTy → Type} [FloatOps F]

section proj
variable [ProjFacts]
open ProjFacts

/-- The projection's contraction: hidden × hidden. -/
def dotQ : DotDims Sx2 Swt SQ where
  lhsContracting := [1]
  rhsContracting := [0]
  lhsNonContracting := [0]
  rhsNonContracting := [1]
  lhsBatch := []
  rhsBatch := []
  wf := wfQ

/-- The projected queries of a row block: the rows scaled by the root of their mean square and by the norm weight,
    times the transposed projection. -/
def proj (x : Vec F Sx .f32) (w : Vec F Sw2 .f32) (wt : Vec F Swt .f32) : FVec F SQ .f32 :=
  have v1 : FVec F Sx2 .f32 := shapeCast Sx2 x castX
  have v3 : FVec F Sp .f32 := multiReduction .add [1] Sp (mulf v1 v1) 0x00000000#32 redX (.inl rfl) rfl
  have v6 : FVec F Sx1 .f32 := divf (shapeCast Sx1 v3 castM) (broadcast Sx1 (Scalar.ofBits .f32 0x45000000#32))
  have v9 : FVec F Sx1 .f32 := rsqrt (addf v6 (broadcast Sx1 (Scalar.ofBits .f32 0x358637BD#32)))
  have v11 : FVec F Sx2 .f32 := mulf v1 (broadcastTo Sx2 v9 bX)
  have v14 : FVec F Sw2 .f32 := shapeCast Sw2 (shapeCast Sw1 w castW) castW'
  matmul dotQ none (mulf v11 (broadcastTo Sx2 v14 bW)) (shapeCast Swt wt castWt) (constant SQ .f32 0x00000000#32)

end proj

section head
variable (n : ℕ) [HeadFacts n]
open HeadFacts

/-- The score contraction: both sides along the head dimension. -/
def dotS : DotDims (Sm n) Sqh (Sn n) where
  lhsContracting := [1]
  rhsContracting := [1]
  lhsNonContracting := [0]
  rhsNonContracting := [0]
  lhsBatch := []
  rhsBatch := []
  wf := wfS

/-- The counting contraction: chunk by chunk. -/
def dotC : DotDims (Sq n) (Sn n) (Sn n) where
  lhsContracting := [1]
  rhsContracting := [0]
  lhsNonContracting := [0]
  rhsNonContracting := [1]
  lhsBatch := []
  rhsBatch := []
  wf := wfC

/-- The chunk number down a column. -/
def chunkCol : IVec (Sc n) 32 := iota .tc (Sc n) 32 [0] iCol

/-- Which chunks a position sees: position `row0 + r` is at or past the end of chunk `d`. -/
def visV (row0 : BitVec 32) : IVec (Sn n) 1 :=
  cmpi .sge (broadcastTo (Sn n) (addi (broadcast Sr row0) (iota .tc Sr 32 [1] (iRow n))) bRow)
    (broadcastTo (Sn n) (muli (addi (chunkCol n) (broadcast (Sc n) 1#32)) (broadcast (Sc n) 64#32)) bCol)

/-- 1 where the column's chunk is after the row's, else 0. -/
def gtV : FVec F (Sq n) .f32 :=
  sitofp .f32 (extui 32 (cmpi .sgt (iota .tc (Sq n) 32 [1] i1) (iota .tc (Sq n) 32 [0] i0)) (lt132 n))

/-- 1 where the column's chunk is the row's or after it, else 0. -/
def geV : FVec F (Sq n) .f32 :=
  sitofp .f32 (extui 32 (cmpi .sge (iota .tc (Sq n) 32 [1] i1) (iota .tc (Sq n) 32 [0] i0)) (lt132 n))

variable {n}

/-- The masked scores of one head. -/
def scoreV (vis : IVec (Sn n) 1) (qh : FVec F Sqh .f32) (lm : Vec F (Sl n) .f32) : FVec F (Sn n) .f32 :=
  select vis (mulf (matmul (dotS n) none (shapeCast (Sm n) lm castLm) qh (constant (Sn n) .f32 0x00000000#32))
    (broadcast (Sn n) (Scalar.ofBits .f32 0x3E000000#32))) (broadcast (Sn n) (Scalar.ofBits .f32 0xFF800000#32))

/-- One knock-out round: every entry equal to its column's maximum goes to −∞. -/
def knockV (c : FVec F (Sn n) .f32) : FVec F (Sn n) .f32 :=
  select (cmpf .oeq c (broadcastTo (Sn n) (shapeCast Sr (multiReduction .maximumf [0] Sp c 0xFF800000#32 redMax (.inl rfl) rfl) (castRow n)) bRow))
    (broadcast (Sn n) (Scalar.ofBits .f32 0xFF800000#32)) c

/-- Sixteen knock-out rounds. -/
def knock16V (c : FVec F (Sn n) .f32) : FVec F (Sn n) .f32 :=
  knockV (knockV (knockV (knockV (knockV (knockV (knockV (knockV (knockV (knockV (knockV (knockV (knockV (knockV (knockV (knockV c)))))))))))))))

/-- The selection: what the rounds knocked out and the position sees. -/
def selV (vis : IVec (Sn n) 1) (s : FVec F (Sn n) .f32) : IVec (Sn n) 1 :=
  andi (cmpf .oeq (knock16V s) (broadcast (Sn n) (Scalar.ofBits .f32 0xFF800000#32))) vis

/-- The slot each selected chunk goes to: the number of selected chunks after it; 16 for the others. -/
def slotV (sel : IVec (Sn n) 1) : IVec (Sn n) 32 :=
  select sel (fptosi 32 (matmul (dotC n) none (gtV n) (sitofp .f32 (extui 32 sel (lt132 n)) : FVec F (Sn n) .f32) (constant (Sn n) .f32 0x00000000#32)))
    (broadcast (Sn n) 16#32)

/-- The stick lengths: the score itself above 15, else the logarithm of one plus its exponential. -/
def stickV (s : FVec F (Sn n) .f32) : FVec F (Sn n) .f32 :=
  select (cmpf .ogt s (broadcast (Sn n) (Scalar.ofBits .f32 0x41700000#32))) s
    (log1p (exp (minimumf s (broadcast (Sn n) (Scalar.ofBits .f32 0x41700000#32)))))

/-- The weights of the selected chunks, 0 elsewhere. -/
def weightV (sel : IVec (Sn n) 1) (s : FVec F (Sn n) .f32) : FVec F (Sn n) .f32 :=
  select sel (exp (subf s (matmul (dotC n) (some .fp32) (geV n)
      (select sel (stickV s) (broadcast (Sn n) (Scalar.ofBits .f32 0x00000000#32))) (constant (Sn n) .f32 0x00000000#32))))
    (broadcast (Sn n) (Scalar.ofBits .f32 0x00000000#32))

/-- Chunk number and half the weight in one value. -/
def packedV (sel : IVec (Sn n) 1) (s : FVec F (Sn n) .f32) : FVec F (Sn n) .f32 :=
  addf (broadcastTo (Sn n) (sitofp .f32 (chunkCol n) : FVec F (Sc n) .f32) bCol)
    (mulf (weightV sel s) (broadcast (Sn n) (Scalar.ofBits .f32 0x3F000000#32)))

/-- Each slot's packed value: the sum over the chunks that go to it. -/
def opkV (sel : IVec (Sn n) 1) (s : FVec F (Sn n) .f32) : FVec F So .f32 :=
  multiReduction .add [1] So
    (select (cmpi .eq (broadcastTo (S3 n) (shapeCast (S31 n) (slotV (F := F) sel) cast3) b3) (iota .tc (S3 n) 32 [0] i3))
      (broadcastTo (S3 n) (shapeCast (S31 n) (shapeCast (S31 n) (packedV sel s) cast3) cast33) b3)
      (broadcast (S3 n) (Scalar.ofBits .f32 0x00000000#32))) 0x00000000#32 red3 (.inl rfl) rfl

variable (n)

/-- The stored weights of one head. -/
def outW (o : FVec F So .f32) : FVec F St .f32 :=
  shapeCast St (mulf (subf o (floor o)) (broadcast So (Scalar.ofBits .f32 0x40000000#32))) (castOut n)

/-- The stored chunk numbers of one head. -/
def outI (o : FVec F So .f32) : IVec St 32 :=
  shapeCast St (fptosi 32 (floor o)) (castOut n)

/-- Head `h`'s masked scores, from the blocks. -/
def headS [ProjFacts] (row0 : BitVec 32) (x0 : Vec F Sx .f32) (x1 : Vec F Swt .f32) (x2 : Vec F Slm .f32) (x3 : Vec F Sw2 .f32) (h : Fin 8) : FVec F (Sn n) .f32 :=
  scoreV (visV n row0)
    (extractStridedSlice Sqh ![0, 64 * h.val]
      (proj (View.ld x0 (Rect.unit (s := Sx) ![0, 0, 0] Sx.size ProjFacts.inbX)) (View.ld x3 (Rect.unit (s := Sw2) ![0, 0] Sw2.size ProjFacts.inbW))
        (View.ld x1 (Rect.unit (s := Swt) ![0, 0] Swt.size ProjFacts.inbWt))) (ProjFacts.sl h))
    (View.ld x2 (Rect.unit (s := Slm) ![0, h.val, 0, 0] (Sl n).size (inbL h)))

/-- Head `h`'s packed slots, from the blocks: with the rounds, or with every visible chunk selected. -/
def headO [ProjFacts] (top : Bool) (row0 : BitVec 32) (x0 : Vec F Sx .f32) (x1 : Vec F Swt .f32) (x2 : Vec F Slm .f32) (x3 : Vec F Sw2 .f32) (h : Fin 8) : FVec F So .f32 :=
  match top with
  | true => opkV (selV (visV n row0) (headS n row0 x0 x1 x2 x3 h)) (headS n row0 x0 x1 x2 x3 h)
  | false => opkV (visV n row0) (headS n row0 x0 x1 x2 x3 h)

/-- Where head `h`'s slots stand in the output block. -/
def headR [ProjFacts] (h : Fin 8) : Rect Sob := Rect.unit (s := Sob) ![0, h.val, 0, 0] St.size (ProjFacts.inbO h)

/-- The weights block as the body leaves it. -/
def blockW [ProjFacts] (top : Bool) (row0 : BitVec 32) (x0 : Vec F Sx .f32) (x1 : Vec F Swt .f32) (x2 : Vec F Slm .f32) (x3 : Vec F Sw2 .f32) : Vec F Sob .f32 :=
  have p (h : Fin 8) : View.Piece (Elt F) Sob .f32 := ⟨headR h, outW n (headO n top row0 x0 x1 x2 x3 h)⟩
  View.canon [p 7, p 6, p 5, p 4, p 3, p 2, p 1, p 0]

/-- The chunk-number block as the body leaves it. -/
def blockI [ProjFacts] (top : Bool) (row0 : BitVec 32) (x0 : Vec F Sx .f32) (x1 : Vec F Swt .f32) (x2 : Vec F Slm .f32) (x3 : Vec F Sw2 .f32) : Vec F Sob .i32 :=
  have p (h : Fin 8) : View.Piece (Elt F) Sob .i32 := ⟨headR h, outI n (headO n top row0 x0 x1 x2 x3 h)⟩
  View.canon [p 7, p 6, p 5, p 4, p 3, p 2, p 1, p 0]

end head

end Cert.Head

end
-- ==== Proof.Blocks.lean ====
/- Each launch's output blocks, as the generated frame names them, are the two block functions of HeadFn at that
   launch's number of chunks and first row. -/
module

public import proofs.«01_k».proof.Proof.HeadFn
public import proofs.«01_k».proof.Proof.Gen.KernelIdeal.Frame

@[expose] public section

set_option maxRecDepth 16384

noncomputable section

namespace Cert.Head

open Idealize.ShloMosaic Cert.KernelIdeal Cert.KernelIdeal.Gen

instance : ProjFacts where
  castX := shapeCasts_S1x1024x2048_S1024x2048
  redX := reduces_S1024x2048_S1024
  castM := by decide
  bX := by decide
  castW := by decide
  castW' := shapeCasts_S2048_S1x2048
  bW := by decide
  castWt := shapeCasts_S2048x512_S2048x512
  wfQ := dot_S1024x2048_S2048x512_S1024x512_1_0_0_1_n_n_wf
  sl := by decide
  inbX := by decide
  inbW := by decide
  inbWt := by decide
  inbO := by decide

instance : HeadFacts 16 where
  bRow := by decide
  bCol := by decide
  iCol := iota_S16x1_d0_w32
  iRow := iota_S1x1024_d1_w32
  i0 := iota_S16x16_d0_w32
  i1 := iota_S16x16_d1_w32
  castLm := shapeCasts_S1x1x16x64_S16x64
  redMax := by decide
  castRow := shapeCasts_S1024_S1x1024
  i3 := iota_S16x16x1024_d0_w32
  cast3 := shapeCasts_S16x1024_S1x16x1024
  cast33 := shapeCasts_S1x16x1024_S1x16x1024
  b3 := broadcasts_S1x16x1024_S16x16x1024
  red3 := reduces_S16x16x1024_S16x1024
  castOut := shapeCasts_S16x1024_S1x1x16x1024
  wfS := dot_S16x64_S1024x64_S16x1024_1_1_0_0_n_n_wf
  wfC := dot_S16x16_S16x1024_S16x1024_1_0_0_1_n_n_wf
  inbL := by decide
  lt132 := by decide

instance : HeadFacts 32 where
  bRow := by decide
  bCol := by decide
  iCol := iota_S32x1_d0_w32
  iRow := iota_S1x1024_d1_w32
  i0 := iota_S32x32_d0_w32
  i1 := iota_S32x32_d1_w32
  castLm := shapeCasts_S1x1x32x64_S32x64
  redMax := by decide
  castRow := shapeCasts_S1024_S1x1024
  i3 := iota_S16x32x1024_d0_w32
  cast3 := shapeCasts_S32x1024_S1x32x1024
  cast33 := shapeCasts_S1x32x1024_S1x32x1024
  b3 := broadcasts_S1x32x1024_S16x32x1024
  red3 := reduces_S16x32x1024_S16x1024
  castOut := shapeCasts_S16x1024_S1x1x16x1024
  wfS := dot_S32x64_S1024x64_S32x1024_1_1_0_0_n_n_wf
  wfC := dot_S32x32_S32x1024_S32x1024_1_0_0_1_n_n_wf
  inbL := by decide
  lt132 := by decide

instance : HeadFacts 48 where
  bRow := by decide
  bCol := by decide
  iCol := iota_S48x1_d0_w32
  iRow := iota_S1x1024_d1_w32
  i0 := iota_S48x48_d0_w32
  i1 := iota_S48x48_d1_w32
  castLm := shapeCasts_S1x1x48x64_S48x64
  redMax := by decide
  castRow := shapeCasts_S1024_S1x1024
  i3 := iota_S16x48x1024_d0_w32
  cast3 := shapeCasts_S48x1024_S1x48x1024
  cast33 := shapeCasts_S1x48x1024_S1x48x1024
  b3 := broadcasts_S1x48x1024_S16x48x1024
  red3 := reduces_S16x48x1024_S16x1024
  castOut := shapeCasts_S16x1024_S1x1x16x1024
  wfS := dot_S48x64_S1024x64_S48x1024_1_1_0_0_n_n_wf
  wfC := dot_S48x48_S48x1024_S48x1024_1_0_0_1_n_n_wf
  inbL := by decide
  lt132 := by decide

instance : HeadFacts 64 where
  bRow := by decide
  bCol := by decide
  iCol := iota_S64x1_d0_w32
  iRow := iota_S1x1024_d1_w32
  i0 := iota_S64x64_d0_w32
  i1 := iota_S64x64_d1_w32
  castLm := shapeCasts_S1x1x64x64_S64x64
  redMax := by decide
  castRow := shapeCasts_S1024_S1x1024
  i3 := iota_S16x64x1024_d0_w32
  cast3 := shapeCasts_S64x1024_S1x64x1024
  cast33 := shapeCasts_S1x64x1024_S1x64x1024
  b3 := broadcasts_S1x64x1024_S16x64x1024
  red3 := reduces_S16x64x1024_S16x1024
  castOut := shapeCasts_S16x1024_S1x1x16x1024
  wfS := dot_S64x64_S1024x64_S64x1024_1_1_0_0_n_n_wf
  wfC := dot_S64x64_S64x1024_S64x1024_1_0_0_1_n_n_wf
  inbL := by decide
  lt132 := by decide

variable {F : FTy → Type} [FloatOps F]
variable (x0 : Vec F Sx .f32) (x1 : Vec F Swt .f32) (x2 : Vec F Slm .f32) (x3 : Vec F Sw2 .f32)

theorem out0_4_eq : out0_4 x0 x1 x2 x3 = blockW 16 false 0#32 x0 x1 x2 x3 := rfl
theorem out0_5_eq : out0_5 x0 x1 x2 x3 = blockI 16 false 0#32 x0 x1 x2 x3 := rfl

theorem out1_4_eq : out1_4 x0 x1 x2 x3 = blockW 32 true 1024#32 x0 x1 x2 x3 := rfl
theorem out1_5_eq : out1_5 x0 x1 x2 x3 = blockI 32 true 1024#32 x0 x1 x2 x3 := rfl

theorem out2_4_eq : out2_4 x0 x1 x2 x3 = blockW 48 true 2048#32 x0 x1 x2 x3 := rfl
theorem out2_5_eq : out2_5 x0 x1 x2 x3 = blockI 48 true 2048#32 x0 x1 x2 x3 := rfl

theorem out3_4_eq : out3_4 x0 x1 x2 x3 = blockW 64 true 3072#32 x0 x1 x2 x3 := rfl
theorem out3_5_eq : out3_5 x0 x1 x2 x3 = blockI 64 true 3072#32 x0 x1 x2 x3 := rfl

end Cert.Head

end
-- ==== Proof.Spec.lean ====
/- What one position and head come to, as mathematics on extended reals: the scores of the chunks the position sees,
   which sixteen of them are kept, where each kept chunk is listed, and the weight that goes with it. -/
module

public import Idealize.ShloMosaic.PureOps.Ideal

@[expose] public section

noncomputable section

namespace Cert.Spec

open Idealize.ShloMosaic Finset

/-- The stick length of a score: the score above 15, else `log (1 + exp s)`. -/
def stick (s : EReal) : EReal := if 15 < s then s else Ideal.log1p (Ideal.exp (min s 15))

/-- How many visible chunks score strictly more than `d`; `nv` chunks are visible. -/
def rank (S : ℕ → EReal) (nv d : ℕ) : ℕ := ((range nv).filter fun e => S d < S e).card

/-- The kept chunks: all the visible ones if they are at most sixteen, else those with fewer than sixteen above them. -/
def kept (S : ℕ → EReal) (nv : ℕ) : Finset ℕ := (range nv).filter fun d => nv ≤ 16 ∨ rank S nv d < 16

/-- How many chunks of `T` come after `d`. -/
def after (T : Finset ℕ) (d : ℕ) : ℕ := (T.filter fun e => d < e).card

/-- The weight of chunk `d`: the exponential of its score less the stick lengths of itself and the later kept chunks. -/
def weight (S : ℕ → EReal) (T : Finset ℕ) (d : ℕ) : EReal :=
  Ideal.exp (S d - ∑ e ∈ T.filter (fun e => d ≤ e), stick (S e))

/-- The chunk listed in slot `j` (0 where there is none): the kept chunks in descending order. -/
def slotChunk (T : Finset ℕ) (j : ℕ) : ℕ := ∑ d ∈ T.filter (fun d => after T d = j), d

/-- The weight listed in slot `j` (0 where there is none). -/
def slotWeight (S : ℕ → EReal) (T : Finset ℕ) (j : ℕ) : EReal := ∑ d ∈ T.filter (fun d => after T d = j), weight S T d

/-- Where more than sixteen chunks are visible, their scores are not −∞ and no two are equal. -/
def Clear (S : ℕ → EReal) (nv : ℕ) : Prop :=
  17 ≤ nv → (∀ d < nv, S d ≠ ⊥) ∧ ∀ d < nv, ∀ e < nv, S d = S e → d = e

/-- The rank is below that of anything scoring less. -/
theorem rank_lt {S : ℕ → EReal} {nv d e : ℕ} (hd : d < nv) (h : S e < S d) : rank S nv d < rank S nv e := by
  refine card_lt_card ⟨fun x hx => ?_, fun hsub => ?_⟩
  · simp only [mem_filter] at hx ⊢
    exact ⟨hx.1, h.trans hx.2⟩
  · have := hsub (mem_filter.2 ⟨mem_range.2 hd, h⟩)
    exact lt_irrefl _ (mem_filter.1 this).2

/-- Kept chunks are visible. -/
theorem kept_subset (S : ℕ → EReal) (nv : ℕ) : kept S nv ⊆ range nv := filter_subset _ _

/-- Of two chunks of `T`, fewer come after the later one. -/
theorem after_lt {T : Finset ℕ} {d e : ℕ} (he : e ∈ T) (h : d < e) : after T e < after T d := by
  refine card_lt_card ⟨fun x hx => ?_, fun hsub => ?_⟩
  · simp only [mem_filter] at hx ⊢
    exact ⟨hx.1, h.trans hx.2⟩
  · have := hsub (mem_filter.2 ⟨he, h⟩)
    exact lt_irrefl _ (mem_filter.1 this).2

/-- No two chunks of `T` have equally many after them. -/
theorem after_inj {T : Finset ℕ} {d e : ℕ} (hd : d ∈ T) (he : e ∈ T) (h : after T d = after T e) : d = e := by
  rcases lt_trichotomy d e with hl | hl | hl
  · exact absurd h (after_lt he hl).ne'
  · exact hl
  · exact absurd h (after_lt hd hl).ne

/-- The chunks of `T` that go to a slot: the one that does. -/
theorem filter_slot {T : Finset ℕ} {d j : ℕ} (hd : d ∈ T) (h : after T d = j) : T.filter (fun e => after T e = j) = {d} := by
  ext e
  simp only [mem_filter, mem_singleton]
  exact ⟨fun he => after_inj he.1 hd (he.2.trans h.symm), fun he => he ▸ ⟨hd, h⟩⟩

/-- A slot nothing goes to. -/
theorem filter_slot_empty {T : Finset ℕ} {j : ℕ} (h : ∀ d ∈ T, after T d ≠ j) : T.filter (fun e => after T e = j) = ∅ :=
  filter_eq_empty_iff.2 fun d hd => h d hd

theorem slotChunk_of {T : Finset ℕ} {d j : ℕ} (hd : d ∈ T) (h : after T d = j) : slotChunk T j = d := by
  rw [slotChunk, filter_slot hd h, sum_singleton]

theorem slotWeight_of {S : ℕ → EReal} {T : Finset ℕ} {d j : ℕ} (hd : d ∈ T) (h : after T d = j) :
    slotWeight S T j = weight S T d := by
  rw [slotWeight, filter_slot hd h, sum_singleton]

theorem slotChunk_empty {T : Finset ℕ} {j : ℕ} (h : ∀ d ∈ T, after T d ≠ j) : slotChunk T j = 0 := by
  rw [slotChunk, filter_slot_empty h, sum_empty]

theorem slotWeight_empty {S : ℕ → EReal} {T : Finset ℕ} {j : ℕ} (h : ∀ d ∈ T, after T d ≠ j) : slotWeight S T j = 0 := by
  rw [slotWeight, filter_slot_empty h, sum_empty]

/-- The exponential is not negative. -/
theorem exp_nonneg (x : EReal) : 0 ≤ Ideal.exp x := by
  induction x with
  | bot => simp
  | top => simp
  | coe r => rw [Ideal.exp_coe]; exact_mod_cast (Real.exp_pos r).le

/-- The exponential of something not positive lies between 0 and 1. -/
theorem exp_le_one {x : EReal} (h : x ≤ 0) : ∃ w : ℝ, 0 ≤ w ∧ w ≤ 1 ∧ Ideal.exp x = w := by
  induction x with
  | bot => exact ⟨0, le_refl _, zero_le_one, by simp⟩
  | top => simp at h
  | coe r => exact ⟨Real.exp r, (Real.exp_pos r).le, Real.exp_le_one_iff.2 (by exact_mod_cast h), rfl⟩

/-- `log (1 + x)` of the exponential of a real. -/
theorem log1p_exp_coe (r : ℝ) : Ideal.log1p (Ideal.exp r) = (Real.log (1 + Real.exp r) : ℝ) := by
  have hp : (0 : ℝ) < 1 + Real.exp r := by positivity
  rw [Ideal.exp_coe, Ideal.log1p, show (1 : EReal) = ((1 : ℝ) : EReal) from rfl, ← EReal.coe_add, Ideal.log_coe,
    if_neg (not_le.2 hp)]

theorem log1p_exp_bot : Ideal.log1p (Ideal.exp ⊥) = 0 := by
  have : Ideal.log (1 : EReal) = 0 := by
    rw [show (1 : EReal) = ((1 : ℝ) : EReal) from rfl, Ideal.log_coe]; norm_num
  rw [Ideal.exp_bot, Ideal.log1p, add_zero, this]

theorem stick_bot : stick ⊥ = 0 := by
  rw [stick, if_neg not_lt_bot, min_eq_left bot_le, log1p_exp_bot]

/-- A stick length is at least 0 and at least the score. -/
theorem stick_ge (s : EReal) : 0 ≤ stick s ∧ s ≤ stick s := by
  unfold stick
  split
  · next h => exact ⟨(show (0 : EReal) ≤ 15 by norm_num).trans h.le, le_refl _⟩
  · next h =>
    rw [min_eq_left (not_lt.1 h)]
    induction s with
    | bot => rw [log1p_exp_bot]; exact ⟨le_refl _, bot_le⟩
    | top => exact absurd (EReal.coe_lt_top 15) h
    | coe r =>
      rw [log1p_exp_coe]
      have h0 : (0 : ℝ) ≤ Real.log (1 + Real.exp r) := Real.log_nonneg (by linarith [Real.exp_pos r])
      have h1 : r ≤ Real.log (1 + Real.exp r) := by
        rw [Real.le_log_iff_exp_le (by positivity)]; linarith
      exact ⟨by exact_mod_cast h0, by exact_mod_cast h1⟩

/-- A kept chunk's weight lies between 0 and 1. -/
theorem weight_mem {S : ℕ → EReal} {T : Finset ℕ} {d : ℕ} (hd : d ∈ T) : ∃ w : ℝ, 0 ≤ w ∧ w ≤ 1 ∧ weight S T d = w := by
  refine exp_le_one (?_ : S d - _ ≤ 0)
  have h : S d ≤ ∑ e ∈ T.filter (fun e => d ≤ e), stick (S e) :=
    (stick_ge (S d)).2.trans
      (single_le_sum (f := fun e => stick (S e)) (fun e _ => (stick_ge (S e)).1) (mem_filter.2 ⟨hd, le_refl d⟩))
  exact EReal.sub_nonpos.2 h

/-- Chunk number plus half the weight: the whole part is the chunk number, twice the rest is the weight. -/
theorem unpack (d : ℕ) {w : ℝ} (h0 : 0 ≤ w) (h1 : w ≤ 1) :
    Ideal.liftRound Int.floor (((d : ℝ) : EReal) + (w : EReal) * ((1 / 2 : ℝ) : EReal)) = ((d : ℝ) : EReal) ∧
      (((d : ℝ) : EReal) + (w : EReal) * ((1 / 2 : ℝ) : EReal) - ((d : ℝ) : EReal)) * 2 = w := by
  have e : ((d : ℝ) : EReal) + (w : EReal) * ((1 / 2 : ℝ) : EReal) = ((d + w * (1 / 2) : ℝ) : EReal) := by
    rw [← EReal.coe_mul, ← EReal.coe_add]
  rw [e]
  constructor
  · rw [Ideal.liftRound_coe]
    have : ⌊(d + w * (1 / 2) : ℝ)⌋ = (d : ℤ) := by
      rw [Int.floor_eq_iff]; push_cast; constructor <;> linarith
    rw [this]; simp
  · rw [← EReal.coe_sub, show (2 : EReal) = ((2 : ℝ) : EReal) from rfl, ← EReal.coe_mul]
    congr 1; ring

/-- A slot's packed value — the sum over the chunks that go there of chunk number plus half the weight — splits into
    the slot's chunk and the slot's weight. -/
theorem unpack_slot (S : ℕ → EReal) (T : Finset ℕ) (j : ℕ) :
    let o := ∑ d ∈ T.filter (fun d => after T d = j), (((d : ℝ) : EReal) + weight S T d * ((1 / 2 : ℝ) : EReal))
    Ideal.liftRound Int.floor o = ((slotChunk T j : ℝ) : EReal) ∧ (o - Ideal.liftRound Int.floor o) * 2 = slotWeight S T j := by
  intro o
  by_cases h : ∃ d ∈ T, after T d = j
  · obtain ⟨d, hd, hj⟩ := h
    obtain ⟨w, h0, h1, hw⟩ := weight_mem (S := S) hd
    have ho : o = ((d : ℝ) : EReal) + (w : EReal) * ((1 / 2 : ℝ) : EReal) := by
      show ∑ d ∈ T.filter (fun d => after T d = j), _ = _
      rw [filter_slot hd hj, sum_singleton, hw]
    obtain ⟨hf, hr⟩ := unpack d h0 h1
    rw [ho, hf, slotChunk_of hd hj, slotWeight_of hd hj, hr, hw]
    exact ⟨rfl, rfl⟩
  · have h' : ∀ d ∈ T, after T d ≠ j := fun d hd hj => h ⟨d, hd, hj⟩
    have ho : o = 0 := by
      show ∑ d ∈ T.filter (fun d => after T d = j), _ = _
      rw [filter_slot_empty h', sum_empty]
    have hf : Ideal.liftRound Int.floor (0 : EReal) = 0 := by
      rw [show (0 : EReal) = ((0 : ℝ) : EReal) from rfl, Ideal.liftRound_coe]; simp
    rw [ho, hf, slotChunk_empty h', slotWeight_empty h']
    simp

end Cert.Spec

end
-- ==== Proof.Rounds.lean ====
/- Sixteen knock-out rounds over a column of scores, and what they leave at −∞. -/
module

public import proofs.«01_k».proof.Proof.Spec

@[expose] public section

noncomputable section

namespace Cert.Spec

open Finset

variable {n : ℕ}

/-- The greatest of the scores, −∞ if there are none. -/
def top (f : Fin n → EReal) : EReal := univ.sup f

/-- One round: whatever equals the greatest goes to −∞. -/
def knock (f : Fin n → EReal) : Fin n → EReal := fun d => if f d = top f then ⊥ else f d

/-- How many score strictly more. -/
def above (f : Fin n → EReal) (d : Fin n) : ℕ := (univ.filter fun e => f d < f e).card

theorem above_lt {f : Fin n → EReal} {d e : Fin n} (h : f e < f d) : above f d < above f e := by
  refine card_lt_card ⟨fun x hx => ?_, fun hsub => ?_⟩
  · simp only [mem_filter] at hx ⊢
    exact ⟨hx.1, h.trans hx.2⟩
  · have := hsub (mem_filter.2 ⟨mem_univ d, h⟩)
    exact lt_irrefl _ (mem_filter.1 this).2

/-- After `k` rounds over scores that are different wherever they are not −∞, those with fewer than `k` above are gone
    and the others as they were. -/
theorem knock_iterate (f : Fin n → EReal) (hf : ∀ d e, f d ≠ ⊥ → f d = f e → d = e) (k : ℕ) :
    knock^[k] f = fun d => if above f d < k then ⊥ else f d := by
  induction k with
  | zero => funext d; simp
  | succ k ih =>
    rw [Function.iterate_succ_apply', ih]
    funext d
    set g : Fin n → EReal := fun d => if above f d < k then ⊥ else f d with hg
    have hgle : ∀ e, g e ≤ top g := fun e => le_sup (f := g) (mem_univ e)
    show (if g d = top g then ⊥ else g d) = _
    by_cases hk : above f d < k
    · have hgd : g d = ⊥ := if_pos hk
      rw [if_pos (Nat.lt_succ_of_lt hk), hgd, ite_self]
    · have hgd : g d = f d := if_neg hk
      rw [hgd]
      by_cases hb : f d = ⊥
      · rw [hb, ite_self, ite_self]
      · have hiff : f d = top g ↔ above f d < k + 1 := by
          constructor
          · intro ht
            by_contra hlt
            have hall : ∀ e ∈ univ.filter (fun e => f d < f e), above f e ∈ range k := by
              intro e he
              have he' : f d < f e := (mem_filter.1 he).2
              by_contra hne
              have hge : g e = f e := if_neg (by simpa using hne)
              have := hgle e
              rw [hge, ← ht] at this
              exact absurd he' (not_lt.2 this)
            have hinj : Set.InjOn (above f) (univ.filter (fun e => f d < f e) : Finset (Fin n)) := by
              intro a ha b hb' hab
              have ha' : f d < f a := (mem_filter.1 (mem_coe.1 ha)).2
              rcases lt_trichotomy (f a) (f b) with h | h | h
              · exact absurd hab (above_lt h).ne'
              · exact hf a b (ne_of_gt (lt_of_le_of_lt bot_le ha')) h
              · exact absurd hab (above_lt h).ne
            have := card_le_card_of_injOn (above f) hall hinj
            rw [card_range] at this
            exact hlt (Nat.lt_succ_of_le this)
          · intro hlt
            have hek : above f d = k := by omega
            refine le_antisymm (hgd ▸ hgle d) (Finset.sup_le fun e _ => ?_)
            show (if above f e < k then ⊥ else f e) ≤ f d
            split
            · exact bot_le
            · next hne =>
              by_contra hh
              have := above_lt (not_le.1 hh)
              omega
        by_cases hlt : above f d < k + 1
        · rw [if_pos (hiff.2 hlt), if_pos hlt]
        · rw [if_neg (fun h => hlt (hiff.1 h)), if_neg hlt]

/-- How many scores are not −∞. -/
def alive (f : Fin n → EReal) : ℕ := (univ.filter fun d => f d ≠ ⊥).card

/-- A round leaves one fewer, if there is one. -/
theorem alive_knock (f : Fin n → EReal) : alive (knock f) ≤ alive f - 1 := by
  have hsub : (univ.filter fun d => knock f d ≠ ⊥) ⊆ univ.filter fun d => f d ≠ ⊥ := by
    intro d hd
    simp only [mem_filter, mem_univ, true_and] at hd ⊢
    intro hb
    apply hd
    simp [knock, hb]
  by_cases h : (univ.filter fun d => f d ≠ ⊥).Nonempty
  · obtain ⟨d₀, hd₀⟩ := h
    obtain ⟨d, -, hd⟩ := exists_mem_eq_sup (univ : Finset (Fin n)) ⟨d₀, mem_univ _⟩ f
    have hdb : f d ≠ ⊥ := by
      intro hb
      have : f d₀ ≤ f d := hd ▸ le_sup (f := f) (mem_univ d₀)
      rw [hb] at this
      exact (mem_filter.1 hd₀).2 (le_bot_iff.1 this)
    have hlt : (univ.filter fun d => knock f d ≠ ⊥).card < (univ.filter fun d => f d ≠ ⊥).card := by
      refine card_lt_card ⟨hsub, fun hs => ?_⟩
      have := hs (mem_filter.2 ⟨mem_univ d, hdb⟩)
      exact (mem_filter.1 this).2 (if_pos hd.symm)
    exact Nat.le_sub_one_of_lt hlt
  · rw [not_nonempty_iff_eq_empty] at h
    rw [h, subset_empty] at hsub
    simp [alive, hsub]

/-- At most sixteen scores that are not −∞: sixteen rounds leave nothing. -/
theorem knock_all (f : Fin n → EReal) (k : ℕ) (h : alive f ≤ k) (d : Fin n) : knock^[k] f d = ⊥ := by
  have key : ∀ k, alive (knock^[k] f) ≤ alive f - k := by
    intro k
    induction k with
    | zero => simp
    | succ k ih =>
      rw [Function.iterate_succ_apply']
      have := alive_knock (knock^[k] f)
      omega
  have h0 : alive (knock^[k] f) = 0 := by have := key k; omega
  by_contra hd
  have : d ∈ univ.filter fun d => knock^[k] f d ≠ ⊥ := mem_filter.2 ⟨mem_univ d, hd⟩
  rw [card_eq_zero.1 h0] at this
  exact absurd this (notMem_empty _)

/-- The sum over `Fin n` of what a predicate on numbers picks out. -/
theorem card_fin_filter (n : ℕ) (p : ℕ → Prop) [DecidablePred p] :
    (univ.filter fun d : Fin n => p d.val).card = ((range n).filter p).card := by
  rw [card_filter, card_filter, ← Fin.sum_univ_eq_sum_range (fun d => if p d then 1 else 0)]

/-- The rounds pick exactly the kept chunks among the visible ones. -/
theorem knock_kept {S : ℕ → EReal} {nv : ℕ} (hn : nv ≤ n) (hS : Clear S nv) {d : Fin n} (hd : d.val < nv) :
    knock^[16] (fun d : Fin n => if d.val < nv then S d.val else ⊥) d = ⊥ ↔ d.val ∈ kept S nv := by
  set f : Fin n → EReal := fun d => if d.val < nv then S d.val else ⊥ with hf
  have hmem : d.val ∈ kept S nv ↔ nv ≤ 16 ∨ rank S nv d.val < 16 := by
    simp [kept, hd]
  rw [hmem]
  by_cases h16 : nv ≤ 16
  · refine iff_of_true (knock_all f 16 ?_ d) (Or.inl h16)
    have h1 : (univ.filter fun d : Fin n => f d ≠ ⊥) ⊆ univ.filter fun d : Fin n => d.val < nv := by
      intro e he
      simp only [mem_filter, mem_univ, true_and] at he ⊢
      by_contra hne
      exact he (if_neg hne)
    have h2 := card_le_card h1
    rw [card_fin_filter n (fun e => e < nv)] at h2
    have h3 : ((range n).filter fun e => e < nv) ⊆ range nv := fun e he => mem_range.2 (mem_filter.1 he).2
    have h4 := card_le_card h3
    rw [card_range] at h4
    exact h2.trans (h4.trans h16)
  · obtain ⟨hb, hinj⟩ := hS (by omega)
    have hfd : f d = S d.val := if_pos hd
    have hfv : ∀ e : Fin n, f e ≠ ⊥ → e.val < nv := by
      intro e he
      by_contra hne
      exact he (if_neg hne)
    have hfi : ∀ d e, f d ≠ ⊥ → f d = f e → d = e := by
      intro a b ha hab
      have h1 := hfv a ha
      have h2 := hfv b (hab ▸ ha)
      refine Fin.ext (hinj _ h1 _ h2 ?_)
      have e1 : f a = S a.val := if_pos h1
      have e2 : f b = S b.val := if_pos h2
      rw [← e1, ← e2, hab]
    have hab : above f d = rank S nv d.val := by
      unfold above rank
      rw [hfd]
      have : (univ.filter fun e : Fin n => S d.val < f e) = univ.filter fun e : Fin n => e.val < nv ∧ S d.val < S e.val := by
        ext e
        simp only [mem_filter, mem_univ, true_and]
        constructor
        · intro h
          have h1 := hfv e (ne_of_gt (lt_of_le_of_lt bot_le h))
          exact ⟨h1, by rwa [show f e = S e.val from if_pos h1] at h⟩
        · rintro ⟨h1, h2⟩
          rwa [show f e = S e.val from if_pos h1]
      rw [this, card_fin_filter n (fun e => e < nv ∧ S d.val < S e)]
      congr 1
      ext e
      simp only [mem_filter, mem_range]
      constructor
      · exact fun h => ⟨h.2.1, h.2.2⟩
      · exact fun h => ⟨lt_of_lt_of_le h.1 hn, h.1, h.2⟩
    rw [knock_iterate f hfi 16]
    simp only [hab, hfd]
    constructor
    · intro h
      by_contra hne
      rw [not_or] at hne
      rw [if_neg hne.2] at h
      exact hb _ hd h
    · rintro (h | h)
      · exact absurd h h16
      · exact if_pos h

end Cert.Spec

end
-- ==== Proof.HeadOps.lean ====
/- The body's operations read at one entry, on extended reals, at any number of chunks. -/
module

public import proofs.«01_k».proof.Proof.HeadFn
public import proofs.«01_k».proof.Proof.Rounds
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.WordArith
public import Idealize.ShloMosaic.PureOps.Ideal.Laws

@[expose] public section

set_option maxRecDepth 16384

noncomputable section

namespace Cert.Head

open Idealize.ShloMosaic Idealize.ShloMosaic.ValueIdx Idealize.ShloMosaic.WordArith Cert.Spec Finset

/-! ## Constants -/

theorem c_eighth : Ideal.ofBits .f32 0x3E000000#32 = ((1 / 8 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_two : Ideal.ofBits .f32 0x40000000#32 = 2 := by
  have : Ideal.ofBits .f32 0x40000000#32 = ((2 : ℝ) : EReal) := by
    simp [Ideal.ofBits, Ideal.ieee, -EReal.coe_mul]; norm_num
  rw [this]; rfl
theorem c_fifteen : Ideal.ofBits .f32 0x41700000#32 = 15 := by
  have : Ideal.ofBits .f32 0x41700000#32 = ((15 : ℝ) : EReal) := by
    simp [Ideal.ofBits, Ideal.ieee, -EReal.coe_mul]; norm_num
  rw [this]; rfl
theorem c_bot : Ideal.ofBits .f32 0xFF800000#32 = ⊥ := by
  simp [Ideal.ofBits, Ideal.ieee]

/-! ## Words and bits -/

/-- The bit of a proposition. -/
abbrev bit (p : Prop) [Decidable p] : BitVec 1 := BitVec.ofBool (decide p)

theorem select_bit {α : Type} (p : Prop) [Decidable p] (a b : α) : Scalar.select (bit p) a b = if p then a else b := by
  by_cases h : p <;> simp [bit, h, Scalar.select]

theorem toNat_bit (p : Prop) [Decidable p] : ((bit p).setWidth 32).toInt = if p then 1 else 0 := by
  by_cases h : p <;> simp [bit, h]

theorem sle_ofNat {a b : ℕ} (ha : a < 2 ^ 31) (hb : b < 2 ^ 31) : (BitVec.ofNat 32 a).sle (BitVec.ofNat 32 b) = decide (a ≤ b) := by
  rw [BitVec.sle, toInt_ofNat_small a ha, toInt_ofNat_small b hb]
  simp

theorem slt_ofNat {a b : ℕ} (ha : a < 2 ^ 31) (hb : b < 2 ^ 31) : (BitVec.ofNat 32 a).slt (BitVec.ofNat 32 b) = decide (a < b) := by
  rw [BitVec.slt, toInt_ofNat_small a ha, toInt_ofNat_small b hb]
  simp

theorem beq_ofNat {a b : ℕ} (ha : a < 2 ^ 31) (hb : b < 2 ^ 31) : (BitVec.ofNat 32 a == BitVec.ofNat 32 b) = decide (a = b) := by
  rw [Bool.eq_iff_iff]
  simp only [beq_iff_eq, decide_eq_true_eq]
  constructor
  · intro h
    have := congrArg BitVec.toNat h
    rwa [toNat_ofNat_of_lt a (by omega), toNat_ofNat_of_lt b (by omega)] at this
  · rintro rfl; rfl

/-- A small natural number converted to a word. -/
theorem fptosi_natCast {k : ℕ} (hk : k < 2 ^ 31) : Ideal.fptosi 32 ((k : ℝ) : EReal) = BitVec.ofNat 32 k := by
  rw [Ideal.fptosi, Ideal.toIntClamped_coe, if_pos (Nat.cast_nonneg k), Int.floor_natCast]
  have : max (-((2 ^ (32 - 1) : ℕ) : ℤ)) (min (((2 ^ (32 - 1) : ℕ) : ℤ) - 1) (k : ℤ)) = (k : ℤ) := by
    norm_num at hk ⊢; omega
  rw [this]
  rfl

/-- Counting by adding ones. -/
theorem sum_ones {ι : Type} (u : Finset ι) (p : ι → Prop) [DecidablePred p] :
    ∑ i ∈ u, (if p i then (1 : EReal) else 0) = (((u.filter p).card : ℝ) : EReal) := by
  rw [← sum_filter, sum_const]
  have := EReal.coe_nsmul (u.filter p).card 1
  rw [nsmul_eq_mul, mul_one] at this
  exact this.symm

/-! ## The operations -/

section
variable {n : ℕ} [HeadFacts n]

/-- A column broadcast along the positions. -/
theorem broadcastCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One slab broadcast along a leading axis. -/
theorem broadcastSlab_apply {α : Type} {a b c : ℕ} (v : (⟨3, ![1, a, b]⟩ : Shape).Idx → α)
    (h : (⟨3, ![1, a, b]⟩ : Shape).Broadcasts ⟨3, ![c, a, b]⟩) (l : Fin c) (p : Fin a) (q : Fin b) :
    broadcastTo ⟨3, ![c, a, b]⟩ v h (ix3 l p q) = v (ix3 (0 : Fin 1) p q) := by
  refine broadcastTo_apply v h (ix3 l p q) (ix3 (0 : Fin 1) p q) fun ax => ?_
  match ax with
  | ⟨0, _⟩ => rfl
  | ⟨1, _⟩ =>
    show p.val = if a = 1 then 0 else p.val
    split
    · have := p.isLt; omega
    · rfl
  | ⟨2, _⟩ =>
    show q.val = if b = 1 then 0 else q.val
    split
    · have := q.isLt; omega
    · rfl

/-- Two leading unit axes dropped. -/
theorem castDrop_apply {α : Type} {a b : ℕ} (v : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ v h (ix2 p q) = v (ix4 (0 : Fin 1) (0 : Fin 1) p q) := by
  refine shapeCast_apply v h _ _ ?_
  rw [Shape.rowMajor_val_four, Shape.rowMajor_val_two]
  show ((0 * 1 + 0) * a + p.val) * b + q.val = p.val * b + q.val
  simp

/-- Two leading unit axes added. -/
theorem castAdd_apply {α : Type} {a b : ℕ} (v : (⟨2, ![a, b]⟩ : Shape).Idx → α)
    (h : (⟨2, ![a, b]⟩ : Shape).ShapeCasts ⟨4, ![1, 1, a, b]⟩) (u u' : Fin 1) (p : Fin a) (q : Fin b) :
    shapeCast ⟨4, ![1, 1, a, b]⟩ v h (ix4 u u' p q) = v (ix2 p q) := by
  refine shapeCast_apply v h _ _ ?_
  rw [Shape.rowMajor_val_four, Shape.rowMajor_val_two]
  show p.val * b + q.val = ((u.val * 1 + u'.val) * a + p.val) * b + q.val
  have : u.val = 0 := by omega
  have : u'.val = 0 := by omega
  simp [*]

theorem chunkCol_apply (d : Fin n) : chunkCol n (ix2 d (0 : Fin 1)) = BitVec.ofNat 32 d.val := by
  rw [chunkCol, iota_single_apply]; rfl

/-- A position sees the chunks that end at or before it. -/
theorem visV_apply (hn : n ≤ 64) {R : ℕ} (hR : R + 1024 ≤ 4096) (d : Fin n) (r : Fin 1024) :
    visV n (BitVec.ofNat 32 R) (ix2 d r) = bit (d.val < (R + r.val) / 64) := by
  have h1 : broadcastTo (Sn n) (addi (broadcast Sr (BitVec.ofNat 32 R)) (iota .tc Sr 32 [1] (HeadFacts.iRow n))) HeadFacts.bRow (ix2 d r)
      = BitVec.ofNat 32 (R + r.val) := by
    rw [broadcastTo_1b_ab_apply]
    show BitVec.ofNat 32 R + iota .tc Sr 32 [1] _ (ix2 (0 : Fin 1) r) = _
    rw [iota_single_apply, BitVec.ofNat_add]
  have h2 : broadcastTo (Sn n) (muli (addi (chunkCol n) (broadcast (Sc n) 1#32)) (broadcast (Sc n) 64#32)) HeadFacts.bCol (ix2 d r)
      = BitVec.ofNat 32 ((d.val + 1) * 64) := by
    rw [broadcastCol_apply]
    show (chunkCol n (ix2 d (0 : Fin 1)) + 1#32) * 64#32 = _
    rw [chunkCol_apply, BitVec.ofNat_mul, BitVec.ofNat_add]
  show BitVec.ofBool (BitVec.sle _ _) = _
  rw [h1, h2, sle_ofNat (by omega) (by omega)]
  congr 1
  rw [decide_eq_decide]
  omega

theorem gtV_apply (hn : n ≤ 64) (d e : Fin n) : gtV (F := Ideal) n (ix2 d e) = if d.val < e.val then 1 else 0 := by
  show FloatOps.sitofp (F := Ideal) .f32 ((IntOp.cmpi .sgt (iota .tc (Sq n) 32 [1] _ (ix2 d e)) (iota .tc (Sq n) 32 [0] _ (ix2 d e))).setWidth 32) = _
  rw [iota_single_apply, iota_single_apply]
  show ((((BitVec.ofBool ((BitVec.ofNat 32 d.val).slt (BitVec.ofNat 32 e.val))).setWidth 32).toInt : ℝ) : EReal) = _
  rw [slt_ofNat (by omega) (by omega), toNat_bit]
  split <;> simp

theorem geV_apply (hn : n ≤ 64) (d e : Fin n) : geV (F := Ideal) n (ix2 d e) = if d.val ≤ e.val then 1 else 0 := by
  show FloatOps.sitofp (F := Ideal) .f32 ((IntOp.cmpi .sge (iota .tc (Sq n) 32 [1] _ (ix2 d e)) (iota .tc (Sq n) 32 [0] _ (ix2 d e))).setWidth 32) = _
  rw [iota_single_apply, iota_single_apply]
  show ((((BitVec.ofBool ((BitVec.ofNat 32 d.val).sle (BitVec.ofNat 32 e.val))).setWidth 32).toInt : ℝ) : EReal) = _
  rw [sle_ofNat (by omega) (by omega), toNat_bit]
  split <;> simp

theorem dotS_eq : dotS n = DotDims.transposedRhs n 64 1024 := rfl
theorem dotC_eq : dotC n = DotDims.plain n n 1024 := rfl

theorem scoreV_apply (vis : IVec (Sn n) 1) (qh : FVec Ideal Sqh .f32) (lm : Vec Ideal (Sl n) .f32) (d : Fin n) (r : Fin 1024) :
    scoreV vis qh lm (ix2 d r) = Scalar.select (vis (ix2 d r))
      ((∑ k : Fin 64, lm (ix4 (0 : Fin 1) (0 : Fin 1) d k) * qh (ix2 r k)) * ((1 / 8 : ℝ) : EReal)) ⊥ := by
  show Scalar.select (vis (ix2 d r)) (FloatOps.matmul (F := Ideal) (dotS n) none (shapeCast (Sm n) lm _) qh _ (ix2 d r) * Ideal.ofBits .f32 0x3E000000#32)
    (Ideal.ofBits .f32 0xFF800000#32) = _
  rw [dotS_eq, Ideal.matmul_transposedRhs_apply, c_eighth, c_bot]
  show Scalar.select _ ((Ideal.ofBits .f32 0x00000000#32 + _) * _) _ = _
  rw [Ideal.ofBits_zero_f32, zero_add]
  congr 2
  refine sum_congr rfl fun k _ => ?_
  rw [castDrop_apply]

/-- A column of a block. -/
def colOf (c : FVec Ideal (Sn n) .f32) (r : Fin 1024) : Fin n → EReal := fun d => c (ix2 d r)

theorem knockV_col (c : FVec Ideal (Sn n) .f32) (r : Fin 1024) : colOf (knockV c) r = knock (colOf c r) := by
  funext d
  show Scalar.select (Ideal.cmp .oeq (c (ix2 d r)) (broadcastTo (Sn n) _ _ (ix2 d r))) (Ideal.ofBits .f32 0xFF800000#32) (c (ix2 d r)) = _
  have : (Finset.univ : Finset (Fin ((Sn n).size 0))).fold max (FloatOps.ofBits (F := Ideal) .f32 0xFF800000#32) (c ∘ (HeadFacts.redMax (n := n)).lift (ix1 r))
      = top (colOf c r) := by
    rw [show (FloatOps.ofBits (F := Ideal) .f32 0xFF800000#32 : EReal) = ⊥ from c_bot]
    show univ.sup _ = univ.sup _
    refine sup_congr rfl fun k _ => ?_
    show c _ = c _
    congr 1
    funext ax
    match ax with
    | ⟨0, _⟩ => rfl
    | ⟨1, _⟩ => rfl
  rw [broadcastTo_1b_ab_apply, shapeCast_a_1a_apply, c_bot,
    (Ideal.multiReduction_maximumf_single c 0xFF800000#32 HeadFacts.redMax (.inl rfl) rfl (ix1 r)).trans this]
  show Scalar.select (bit _) _ _ = _
  rw [select_bit]
  rfl

theorem knock16V_col (c : FVec Ideal (Sn n) .f32) (r : Fin 1024) : colOf (knock16V c) r = knock^[16] (colOf c r) := by
  simp only [knock16V, knockV_col, Function.iterate_succ, Function.iterate_zero, Function.comp, id]

theorem selV_apply (vis : IVec (Sn n) 1) (s : FVec Ideal (Sn n) .f32) (d : Fin n) (r : Fin 1024) :
    selV vis s (ix2 d r) = bit (knock^[16] (colOf s r) d = ⊥) &&& vis (ix2 d r) := by
  rw [← knock16V_col, selV]
  generalize knock16V s = c
  rw [← c_bot]
  rfl

end

section slots
variable {n : ℕ} [HeadFacts n] (hn : n ≤ 64) {T : Finset ℕ} (hT : T ⊆ range n) {S : ℕ → EReal} {r : Fin 1024}
variable {sel : IVec (Sn n) 1} {s : FVec Ideal (Sn n) .f32} (hsel : ∀ d : Fin n, sel (ix2 d r) = bit (d.val ∈ T))
  (hs : ∀ d : Fin n, d.val ∈ T → s (ix2 d r) = S d.val)
include hn hT hsel

omit [HeadFacts n] hn hsel in
/-- A sum over the chunk rows of what a set of numbers picks. -/
theorem sum_rows (p : ℕ → Prop) [DecidablePred p] (g : ℕ → EReal) :
    ∑ e : Fin n, (if e.val ∈ T ∧ p e.val then g e.val else 0) = ∑ e ∈ T.filter p, g e := by
  rw [Fin.sum_univ_eq_sum_range (fun e => if e ∈ T ∧ p e then g e else 0), ← sum_filter]
  refine sum_congr ?_ fun _ _ => rfl
  ext e
  simp only [mem_filter]
  exact ⟨fun h => h.2, fun h => ⟨hT h.1, h⟩⟩

theorem slotV_apply (d : Fin n) : slotV (F := Ideal) sel (ix2 d r) = BitVec.ofNat 32 (if d.val ∈ T then after T d.val else 16) := by
  have hm : FloatOps.matmul (F := Ideal) (dotC n) none (gtV n) (sitofp .f32 (extui 32 sel (HeadFacts.lt132 n)) : FVec Ideal (Sn n) .f32)
      (constant (Sn n) .f32 0x00000000#32) (ix2 d r) = ((after T d.val : ℝ) : EReal) := by
    rw [dotC_eq, Ideal.matmul_plain_apply]
    show Ideal.ofBits .f32 0x00000000#32 + _ = _
    rw [Ideal.ofBits_zero_f32, zero_add, after, ← sum_ones]
    have := sum_rows hT (fun e => d.val < e) (fun _ => 1)
    rw [sum_filter] at this
    rw [← this]
    refine sum_congr rfl fun e _ => ?_
    rw [gtV_apply hn]
    show _ * ((((sel (ix2 e r)).setWidth 32).toInt : ℝ) : EReal) = _
    rw [hsel e, toNat_bit]
    by_cases h1 : d.val < e.val <;> by_cases h2 : e.val ∈ T <;> simp [h1, h2]
  show Scalar.select (sel (ix2 d r)) (Ideal.fptosi 32 (FloatOps.matmul (F := Ideal) (dotC n) none _ _ _ (ix2 d r))) 16#32 = _
  rw [hm, hsel d, select_bit]
  have hlt : after T d.val ≤ n := by
    have := card_le_card ((filter_subset (fun e => d.val < e) T).trans hT)
    rwa [card_range] at this
  split
  · rw [fptosi_natCast (by omega)]
  · rfl

omit [HeadFacts n] hn hT hsel in
theorem stickV_apply (i : (Sn n).Idx) : stickV s i = stick (s i) := by
  show Scalar.select (bit (Ideal.ofBits .f32 0x41700000#32 < s i)) (s i) (Ideal.log1p (Ideal.exp (min (s i) (Ideal.ofBits .f32 0x41700000#32)))) = _
  rw [select_bit, c_fifteen]
  rfl

include hs in
theorem weightV_apply {d : Fin n} (hd : d.val ∈ T) : weightV sel s (ix2 d r) = weight S T d.val := by
  have hm : FloatOps.matmul (F := Ideal) (dotC n) (some .fp32) (geV n) (select sel (stickV s) (broadcast (Sn n) (Scalar.ofBits .f32 0x00000000#32)))
      (constant (Sn n) .f32 0x00000000#32) (ix2 d r) = ∑ e ∈ T.filter (fun e => d.val ≤ e), stick (S e) := by
    rw [dotC_eq, Ideal.matmul_plain_apply]
    show Ideal.ofBits .f32 0x00000000#32 + _ = _
    rw [Ideal.ofBits_zero_f32, zero_add, ← sum_rows hT (fun e => d.val ≤ e) (fun e => stick (S e))]
    refine sum_congr rfl fun e _ => ?_
    rw [geV_apply hn]
    show _ * Scalar.select (sel (ix2 e r)) (stickV s (ix2 e r)) (Ideal.ofBits .f32 0x00000000#32) = _
    rw [hsel e, select_bit, Ideal.ofBits_zero_f32, stickV_apply]
    by_cases h1 : d.val ≤ e.val <;> by_cases h2 : e.val ∈ T <;> simp [h1, h2, hs]
  show Scalar.select (sel (ix2 d r)) (Ideal.exp (s (ix2 d r) - FloatOps.matmul (F := Ideal) (dotC n) _ _ _ _ (ix2 d r))) _ = _
  rw [hm, hsel d, select_bit, if_pos hd, hs d hd]
  rfl

include hs in
theorem packedV_apply {d : Fin n} (hd : d.val ∈ T) :
    packedV sel s (ix2 d r) = ((d.val : ℝ) : EReal) + weight S T d.val * ((1 / 2 : ℝ) : EReal) := by
  show broadcastTo (Sn n) _ _ (ix2 d r) + weightV sel s (ix2 d r) * Ideal.ofBits .f32 0x3F000000#32 = _
  rw [broadcastCol_apply, weightV_apply hn hT hsel hs hd, c_half]
  congr 1
  show (((chunkCol n (ix2 d (0 : Fin 1))).toInt : ℝ) : EReal) = _
  rw [chunkCol_apply, toInt_ofNat_small _ (by omega)]
  simp

include hs in
/-- A slot's packed value: the sum over the selected chunks that go to it. -/
theorem opkV_apply (j : Fin 16) : opkV sel s (ix2 j r)
    = ∑ d ∈ T.filter (fun d => after T d = j.val), (((d : ℝ) : EReal) + weight S T d * ((1 / 2 : ℝ) : EReal)) := by
  rw [← sum_rows hT (fun d => after T d = j.val)]
  refine (Ideal.multiReduction_add_single _ 0x00000000#32 HeadFacts.red3 (.inl rfl) rfl (ix2 j r)).trans ?_
  refine sum_congr rfl fun (d : Fin n) _ => ?_
  have hl : (HeadFacts.red3 (n := n)).lift (ix2 j r) d = ix3 j d r := by
    funext ax
    match ax with
    | ⟨0, _⟩ => rfl
    | ⟨1, _⟩ => rfl
    | ⟨2, _⟩ => rfl
  rw [hl]
  show Scalar.select (BitVec.ofBool (broadcastTo (S3 n) _ _ (ix3 j d r) == iota .tc (S3 n) 32 [0] _ (ix3 j d r)))
    (broadcastTo (S3 n) _ _ (ix3 j d r)) (Ideal.ofBits .f32 0x00000000#32) = _
  rw [broadcastSlab_apply, broadcastSlab_apply, iota_single_apply, shapeCast_ab_1ab_apply, slotV_apply hn hT hsel d, Ideal.ofBits_zero_f32]
  have hj := j.isLt
  have hlt : after T d.val ≤ n := by
    have := card_le_card ((filter_subset (fun e => d.val < e) T).trans hT)
    rwa [card_range] at this
  rw [show (BitVec.ofNat 32 ((ix3 j d r : (S3 n).Idx) 0).val) = BitVec.ofNat 32 j.val from rfl,
    beq_ofNat (by split <;> omega) (by omega)]
  show Scalar.select (bit _) _ _ = _
  rw [select_bit]
  by_cases hd : d.val ∈ T
  · simp only [hd, if_true, true_and]
    congr 1
    have : ∀ (y : FVec Ideal (S31 n) .f32) (h : (S31 n).ShapeCasts (S31 n)) (i : (S31 n).Idx), shapeCast (S31 n) y h i = y i :=
      fun y h i => shapeCast_apply y h i i rfl
    rw [this, shapeCast_ab_1ab_apply, packedV_apply hn hT hsel hs hd]
  · rw [if_neg (by simp only [hd, if_false]; omega), if_neg (by simp [hd])]

end slots

section outs
variable (n : ℕ) [HeadFacts n] {T : Finset ℕ} (hT : T ⊆ range 64) {S : ℕ → EReal} {o : FVec Ideal So .f32} {j : Fin 16} {r : Fin 1024}
  (ho : o (ix2 j r) = ∑ d ∈ T.filter (fun d => after T d = j.val), (((d : ℝ) : EReal) + weight S T d * ((1 / 2 : ℝ) : EReal)))
include ho

theorem outW_apply (u u' : Fin 1) : outW n o (ix4 u u' j r) = slotWeight S T j.val := by
  rw [outW, castAdd_apply]
  show (o (ix2 j r) - Ideal.liftRound Int.floor (o (ix2 j r))) * Ideal.ofBits .f32 0x40000000#32 = _
  rw [ho, c_two]
  exact (unpack_slot S T j.val).2

include hT in
theorem outI_apply (u u' : Fin 1) : outI n o (ix4 u u' j r) = BitVec.ofNat 32 (slotChunk T j.val) := by
  rw [outI, castAdd_apply]
  show Ideal.fptosi 32 (Ideal.liftRound Int.floor (o (ix2 j r))) = _
  rw [ho, (unpack_slot S T j.val).1, fptosi_natCast]
  by_cases h : ∃ d ∈ T, after T d = j.val
  · obtain ⟨d, hd, hj⟩ := h
    rw [slotChunk_of hd hj]
    have := mem_range.1 (hT hd)
    omega
  · rw [slotChunk_empty fun d hd hj => h ⟨d, hd, hj⟩]
    norm_num

end outs

end Cert.Head

end
-- ==== Proof.Scores.lean ====
/- The scores as mathematics: a position's projected query, and its score against a chunk's landmark. -/
module

public import Idealize.ShloMosaic.PureOps.Ideal
public import Idealize.ShloMosaic.Lib.ValueIdxCore
public import Mathlib.Algebra.BigOperators.Fin

@[expose] public section

noncomputable section

namespace Cert.Spec

open Idealize.ShloMosaic Idealize.ShloMosaic.ValueIdx

/-- One component of a position's query: its hidden state `x`, scaled by the root of its mean square and the norm
    weight `w`, against one row `m` of the projection. -/
def query (x w m : Fin 2048 → EReal) : EReal :=
  ∑ k, (x k * Ideal.rsqrt (Ideal.div (∑ l, x l * x l) (Ideal.ofBits .f32 0x45000000#32) + Ideal.ofBits .f32 0x358637BD#32) * w k) * m k

/-- Column `64 h + k` of the projection. -/
def headCol (h : Fin 8) (k : Fin 64) : Fin 512 := ⟨64 * h.val + k.val, by omega⟩

/-- The score of chunk `d` in head `h`: the landmark row times the head's query, over eight. -/
def score (x w : Fin 2048 → EReal) (mat : Fin 512 → Fin 2048 → EReal) (lm : Fin 64 → Fin 64 → EReal) (h : Fin 8) (d : ℕ) : EReal :=
  if hd : d < 64 then (∑ k : Fin 64, lm ⟨d, hd⟩ k * query x w (mat (headCol h k))) * ((1 / 8 : ℝ) : EReal) else 0

theorem score_of_lt {x w : Fin 2048 → EReal} {mat : Fin 512 → Fin 2048 → EReal} {lm : Fin 64 → Fin 64 → EReal} {h : Fin 8} (d : Fin 64) :
    score x w mat lm h d.val = (∑ k : Fin 64, lm d k * query x w (mat (headCol h k))) * ((1 / 8 : ℝ) : EReal) := by
  rw [score, dif_pos d.isLt]

/-- The scores of position `p` of batch entry `b` in head `h`, from the four arguments. -/
def argScore (X : (⟨3, ![2, 4096, 2048]⟩ : Shape).Idx → EReal) (L : (⟨4, ![2, 64, 8, 64]⟩ : Shape).Idx → EReal)
    (P : (⟨1, ![2048]⟩ : Shape).Idx → EReal) (W : (⟨2, ![512, 2048]⟩ : Shape).Idx → EReal) (b : Fin 2) (p : Fin 4096) (h : Fin 8) : ℕ → EReal :=
  score (fun k => X (ix3 b p k)) (fun k => P (ix1 k)) (fun o k => W (ix2 o k)) (fun d k => L (ix4 b d h k)) h

end Cert.Spec

end
-- ==== Proof.HeadValue.lean ====
/- What the body leaves in its two output blocks, entry by entry, on extended reals. -/
module

public import proofs.«01_k».proof.Proof.HeadOps
public import proofs.«01_k».proof.Proof.Scores

@[expose] public section

set_option maxRecDepth 16384

noncomputable section

namespace Cert.Head

open Idealize.ShloMosaic Idealize.ShloMosaic.ValueIdx Cert.Spec Finset

section
variable [ProjFacts]

theorem dotQ_eq : dotQ = DotDims.plain 1024 2048 512 := rfl

/-- A projected query, component by component. -/
theorem proj_apply (x : Vec Ideal Sx .f32) (w : Vec Ideal Sw2 .f32) (wt : Vec Ideal Swt .f32) (r : Fin 1024) (c : Fin 512) :
    proj x w wt (ix2 r c) = query (fun k => x (ix3 (0 : Fin 1) r k)) (fun k => w (ix2 (0 : Fin 1) k)) (fun k => wt (ix2 k c)) := by
  have hsum : multiReduction (F := Ideal) .add [1] Sp (mulf (shapeCast Sx2 x ProjFacts.castX) (shapeCast Sx2 x ProjFacts.castX)) 0x00000000#32
      ProjFacts.redX (.inl rfl) rfl (ix1 r) = ∑ l : Fin 2048, x (ix3 (0 : Fin 1) r l) * x (ix3 (0 : Fin 1) r l) := by
    refine (Ideal.multiReduction_add_single _ 0x00000000#32 ProjFacts.redX (.inl rfl) rfl (ix1 r)).trans ?_
    refine sum_congr rfl fun (l : Fin 2048) _ => ?_
    have hl : ProjFacts.redX.lift (ix1 r) l = ix2 r l := by
      funext ax
      match ax with
      | ⟨0, _⟩ => rfl
      | ⟨1, _⟩ => rfl
    rw [hl]
    show shapeCast Sx2 x _ (ix2 r l) * shapeCast Sx2 x _ (ix2 r l) = _
    rw [shapeCast_1ab_ab_apply]
  show FloatOps.matmul (F := Ideal) dotQ none _ _ _ (ix2 r c) = _
  rw [dotQ_eq, Ideal.matmul_plain_apply]
  show Ideal.ofBits .f32 0x00000000#32 + _ = _
  rw [Ideal.ofBits_zero_f32, zero_add, query]
  refine sum_congr rfl fun k _ => ?_
  rw [show shapeCast Swt wt ProjFacts.castWt (ix2 k c) = wt (ix2 k c) from shapeCast_apply wt _ _ _ rfl]
  congr 1
  show shapeCast Sx2 x _ (ix2 r k) * broadcastTo Sx2 _ _ (ix2 r k) * broadcastTo Sx2 _ _ (ix2 r k) = _
  rw [broadcastTo_1b_ab_apply, shapeCast_a_1a_apply, shapeCast_1a_a_apply, shapeCast_1ab_ab_apply, broadcastCol_apply]
  congr 2
  show Ideal.rsqrt (Ideal.div (shapeCast Sx1 _ _ (ix2 r (0 : Fin 1))) (Ideal.ofBits .f32 0x45000000#32) + Ideal.ofBits .f32 0x358637BD#32) = _
  rw [shapeCast_a_a1_apply, hsum]

variable {n : ℕ} [HeadFacts n] (x0 : Vec Ideal Sx .f32) (x1 : Vec Ideal Swt .f32) (x2 : Vec Ideal Slm .f32) (x3 : Vec Ideal Sw2 .f32)

/-- The scores of position `r` in head `h`, from the blocks. -/
def blockScore (h : Fin 8) (r : Fin 1024) : ℕ → EReal :=
  score (fun k => x0 (ix3 (0 : Fin 1) r k)) (fun k => x3 (ix2 (0 : Fin 1) k)) (fun c k => x1 (ix2 k c)) (fun d k => x2 (ix4 (0 : Fin 1) h d k)) h

/-- The masked scores of a head. -/
theorem headS_apply (hn : n ≤ 64) {R : ℕ} (hR : R + 1024 ≤ 4096) (h : Fin 8) (d : Fin n) (r : Fin 1024) :
    headS n (BitVec.ofNat 32 R) x0 x1 x2 x3 h (ix2 d r) = if d.val < (R + r.val) / 64 then blockScore x0 x1 x2 x3 h r d.val else ⊥ := by
  rw [headS, scoreV_apply, visV_apply hn hR, select_bit]
  congr 1
  have hd : d.val < 64 := by omega
  rw [blockScore, score_of_lt (⟨d.val, hd⟩ : Fin 64)]
  congr 1
  refine sum_congr rfl fun k _ => ?_
  congr 1
  · refine Eq.trans (show _ = x2 _ from rfl) (congrArg x2 ?_)
    funext ax
    match ax with
    | ⟨0, _⟩ => rfl
    | ⟨1, _⟩ => exact Fin.ext (show h.val + 1 * 0 = h.val by omega)
    | ⟨2, _⟩ => exact Fin.ext (show 0 + 1 * d.val = d.val by omega)
    | ⟨3, _⟩ => exact Fin.ext (show 0 + 1 * k.val = k.val by omega)
  · rw [slice2_axis1_apply (64 * h.val) _ _ r k (headCol h k) rfl, proj_apply,
      View.ld_unit_zero (by funext a; fin_cases a <;> rfl), View.ld_unit_zero (by funext a; fin_cases a <;> rfl),
      View.ld_unit_zero (by funext a; fin_cases a <;> rfl)]

/-- A head's packed slots hold the kept chunks in descending order with their weights. -/
theorem headO_apply (hn : n ≤ 64) (top : Bool) {R : ℕ} (hRn : R + 1024 = 64 * n) (htop : top = false → R = 0) (h : Fin 8) (r : Fin 1024)
    (hS : Clear (blockScore x0 x1 x2 x3 h r) ((R + r.val) / 64)) (j : Fin 16) :
    headO n top (BitVec.ofNat 32 R) x0 x1 x2 x3 h (ix2 j r)
      = ∑ d ∈ (kept (blockScore x0 x1 x2 x3 h r) ((R + r.val) / 64)).filter
          (fun d => after (kept (blockScore x0 x1 x2 x3 h r) ((R + r.val) / 64)) d = j.val),
          (((d : ℝ) : EReal) + weight (blockScore x0 x1 x2 x3 h r) (kept (blockScore x0 x1 x2 x3 h r) ((R + r.val) / 64)) d * ((1 / 2 : ℝ) : EReal)) := by
  have hR : R + 1024 ≤ 4096 := by omega
  have hnv : (R + r.val) / 64 ≤ n := by omega
  have hcol := fun d : Fin n => headS_apply x0 x1 x2 x3 hn hR h d r
  generalize blockScore x0 x1 x2 x3 h r = S at hS hcol ⊢
  generalize hs : headS n (BitVec.ofNat 32 R) x0 x1 x2 x3 h = s at hcol
  have hT : kept S ((R + r.val) / 64) ⊆ range n := (kept_subset S _).trans (range_subset_range.2 hnv)
  have hsT : ∀ d : Fin n, d.val ∈ kept S ((R + r.val) / 64) → s (ix2 d r) = S d.val := fun d hd => by
    rw [hcol, if_pos (mem_range.1 (kept_subset S _ hd))]
  cases top with
  | true =>
    rw [headO, hs]
    refine opkV_apply hn hT (fun d => ?_) hsT j
    rw [selV_apply, visV_apply hn hR]
    have hc : colOf s r = fun d : Fin n => if d.val < (R + r.val) / 64 then S d.val else ⊥ := funext hcol
    rw [hc]
    by_cases hd : d.val < (R + r.val) / 64
    · have := knock_kept hnv hS hd
      by_cases hk : d.val ∈ kept S ((R + r.val) / 64)
      · rw [show bit (d.val ∈ kept S ((R + r.val) / 64)) = 1#1 by simp [bit, hk], show bit (d.val < (R + r.val) / 64) = 1#1 by simp [bit, hd]]
        rw [show bit (knock^[16] _ d = ⊥) = 1#1 by simp only [bit, this.2 hk]; simp]
        rfl
      · rw [show bit (d.val ∈ kept S ((R + r.val) / 64)) = 0#1 by simp [bit, hk], show bit (d.val < (R + r.val) / 64) = 1#1 by simp [bit, hd]]
        rw [show bit (knock^[16] _ d = ⊥) = 0#1 by simp only [bit, mt this.1 hk]; simp]
        rfl
    · have hk : d.val ∉ kept S ((R + r.val) / 64) := fun hk => hd (mem_range.1 (kept_subset S _ hk))
      rw [show bit (d.val ∈ kept S ((R + r.val) / 64)) = 0#1 by simp [bit, hk], show bit (d.val < (R + r.val) / 64) = 0#1 by simp [bit, hd]]
      simp
  | false =>
    have hR0 := htop rfl
    rw [headO, hs]
    refine opkV_apply hn hT (fun d => ?_) hsT j
    rw [visV_apply hn hR]
    congr 1
    refine propext ?_
    simp only [kept, mem_filter, mem_range]
    have : (R + r.val) / 64 ≤ 16 := by omega
    tauto

/-- An index of an output block as head, slot and position. -/
theorem block_idx (y : Sob.Idx) : ∃ (h : Fin 8) (j : Fin 16) (r : Fin 1024), y = ix4 (0 : Fin 1) h j r := by
  obtain ⟨u, h, j, r, rfl⟩ : ∃ (u : Fin 1) (h : Fin 8) (j : Fin 16) (r : Fin 1024), y = ix4 u h j r := ⟨y 0, y 1, y 2, y 3, eq_ix4 y⟩
  obtain rfl : u = 0 := Subsingleton.elim _ _
  exact ⟨h, j, r, rfl⟩

theorem headR_emb (h : Fin 8) (x : St.Idx) : (headR h).emb x = ix4 (0 : Fin 1) h (x 2) (x 3) := by
  have h0 : (x 0).val < 1 := (x 0).isLt
  have h1 : (x 1).val < 1 := (x 1).isLt
  funext ax
  match ax with
  | ⟨0, _⟩ => exact Fin.ext (show 0 + 1 * (x 0).val = 0 by omega)
  | ⟨1, _⟩ => exact Fin.ext (show h.val + 1 * (x 1).val = h.val by omega)
  | ⟨2, _⟩ => exact Fin.ext (show 0 + 1 * (x 2).val = (x 2).val by omega)
  | ⟨3, _⟩ => exact Fin.ext (show 0 + 1 * (x 3).val = (x 3).val by omega)

/-- Eight pieces, one per head, read at a head. -/
theorem canon_heads {e : EltTy} (f : Fin 8 → Vec Ideal St e) (h : Fin 8) (j : Fin 16) (r : Fin 1024) :
    View.canon (s := Sob) (Val := Elt Ideal) [⟨headR 7, f 7⟩, ⟨headR 6, f 6⟩, ⟨headR 5, f 5⟩, ⟨headR 4, f 4⟩, ⟨headR 3, f 3⟩, ⟨headR 2, f 2⟩, ⟨headR 1, f 1⟩, ⟨headR 0, f 0⟩]
      (ix4 (0 : Fin 1) h j r) = f h (ix4 (0 : Fin 1) (0 : Fin 1) j r) := by
  have hp : ∀ (k : Fin 8) (x : St.Idx), f k x = (fun y : Sob.Idx => f (y 1) (ix4 (0 : Fin 1) (0 : Fin 1) (y 2) (y 3))) ((headR k).emb x) := by
    intro k x
    show _ = f ((headR k).emb x 1) (ix4 _ _ ((headR k).emb x 2) ((headR k).emb x 3))
    rw [headR_emb]
    show f k x = f k (ix4 (0 : Fin 1) (0 : Fin 1) (x 2) (x 3))
    congr 1
    refine (eq_ix4 x).trans ?_
    have h0 : x 0 = (0 : Fin 1) := Subsingleton.elim (α := Fin 1) _ _
    have h1 : x 1 = (0 : Fin 1) := Subsingleton.elim (α := Fin 1) _ _
    rw [h0, h1]
    rfl
  refine View.canon_apply_of_pieces (fun y : Sob.Idx => f (y 1) (ix4 (0 : Fin 1) (0 : Fin 1) (y 2) (y 3))) _ ?_ _ ?_
  · intro p hp'
    simp only [List.mem_cons, List.not_mem_nil, or_false] at hp'
    rcases hp' with rfl | rfl | rfl | rfl | rfl | rfl | rfl | rfl <;> exact hp _
  · refine ⟨⟨headR h, f h⟩, ?_, ?_⟩
    · simp only [List.mem_cons, List.not_mem_nil, or_false]
      fin_cases h <;> simp
    · refine (Rect.mem_set_unit (inb := ProjFacts.inbO h)).2 fun a => ?_
      have hj := j.isLt
      have hr := r.isLt
      match a with
      | ⟨0, _⟩ => exact ⟨Nat.le_refl 0, Nat.one_pos⟩
      | ⟨1, _⟩ => exact ⟨Nat.le_refl h.val, Nat.lt_succ_self h.val⟩
      | ⟨2, _⟩ => exact ⟨Nat.zero_le _, show j.val < 0 + 16 by omega⟩
      | ⟨3, _⟩ => exact ⟨Nat.zero_le _, show r.val < 0 + 1024 by omega⟩

theorem blockW_apply (hn : n ≤ 64) (top : Bool) {R : ℕ} (hRn : R + 1024 = 64 * n) (htop : top = false → R = 0) (h : Fin 8) (r : Fin 1024)
    (hS : Clear (blockScore x0 x1 x2 x3 h r) ((R + r.val) / 64)) (j : Fin 16) :
    blockW n top (BitVec.ofNat 32 R) x0 x1 x2 x3 (ix4 (0 : Fin 1) h j r)
      = slotWeight (blockScore x0 x1 x2 x3 h r) (kept (blockScore x0 x1 x2 x3 h r) ((R + r.val) / 64)) j.val := by
  have e := canon_heads (e := .f32) (fun h => outW n (headO n top (BitVec.ofNat 32 R) x0 x1 x2 x3 h)) h j r
  have o := headO_apply x0 x1 x2 x3 hn top hRn htop h r hS j
  exact e.trans (outW_apply n o 0 0)

theorem blockI_apply (hn : n ≤ 64) (top : Bool) {R : ℕ} (hRn : R + 1024 = 64 * n) (htop : top = false → R = 0) (h : Fin 8) (r : Fin 1024)
    (hS : Clear (blockScore x0 x1 x2 x3 h r) ((R + r.val) / 64)) (j : Fin 16) :
    blockI n top (BitVec.ofNat 32 R) x0 x1 x2 x3 (ix4 (0 : Fin 1) h j r)
      = BitVec.ofNat 32 (slotChunk (kept (blockScore x0 x1 x2 x3 h r) ((R + r.val) / 64)) j.val) := by
  have e := canon_heads (e := .i32) (fun h => outI n (headO n top (BitVec.ofNat 32 R) x0 x1 x2 x3 h)) h j r
  have o := headO_apply x0 x1 x2 x3 hn top hRn htop h r hS j
  exact e.trans (outI_apply n ((kept_subset _ _).trans (range_subset_range.2 (by omega))) o 0 0)

end

end Cert.Head

end
-- ==== Proof.Launches.lean ====
/- The four launches' output arrays, entry by entry: each launch takes one block of 1024 positions, its grid one batch
   entry a point. -/
module

public import proofs.«01_k».proof.Proof.Blocks
public import proofs.«01_k».proof.Proof.HeadValue
public import Idealize.ShloMosaic.Lib.Pipeline.ValueKit.Geometry

@[expose] public section

set_option maxRecDepth 16384

noncomputable section

namespace Cert.KernelIdeal.Final

open Idealize.ShloMosaic Idealize.ShloMosaic.TcCoe Idealize.ShloMosaic.ValueIdx
open Idealize.ShloMosaic.Pipeline (Dat Window)
open Cert.KernelIdeal Cert.KernelIdeal.Gen Cert.Spec Cert.Head

/-- The scores of position `p` of batch entry `b` in head `h`, from the arrays the launches read. -/
def entryScore (X : S2x4096x2048.Idx → EReal) (WT : S2048x512.Idx → EReal) (LM : S2x8x64x64.Idx → EReal) (PN : S1x2048.Idx → EReal)
    (b : Fin 2) (p : Fin 4096) (h : Fin 8) : ℕ → EReal :=
  score (fun k => X (ix3 b p k)) (fun k => PN (ix2 (0 : Fin 1) k)) (fun o k => WT (ix2 k o)) (fun d k => LM (ix4 b h d k)) h

variable (V : (c : Dev nD) → (b : Ref sig .tc) → Buf (Elt Ideal) ((c : Thread nD τ).loc b)) (c : Dev nD)

/-- Position `r` of row block `K`. -/
abbrev pos (K : Fin 4) (r : Fin 1024) : Fin 4096 := ⟨1024 * K.val + r.val, by omega⟩

/-- A block's element stands in its array at the block index times the block size plus its own coordinate. -/
theorem emb_eq {G : Pipeline.Grid} (w : Window sig G) (hk : w.kind = .blocked) (t : Fin G.N) (y : (w.xblock (G.coords t)).Idx) (i : w.shape.Idx)
    {ix : Fin w.shape.rank → ℕ} (hix : w.index t = ix) (h : ∀ a, ix a * w.size a + (y a : ℕ) = i a) : (w.rect t).emb y = i :=
  funext fun a => Fin.ext ((Window.rect_emb_val w t y a hk).trans (by rw [hix]; exact h a))

/-- The coordinates of a block whose first axis alone is walked, its block one element there: rank 4. -/
theorem walk4 {s s' : Fin 4 → ℕ} (t b : ℕ) (hb : b = t) (h1 : s 0 = 1) (y : (⟨4, s⟩ : Shape).Idx) (i : (⟨4, s'⟩ : Shape).Idx)
    (y0 : (y 0).val = 0) (i0 : (i 0).val = b) (e1 : (y 1).val = i 1) (e2 : (y 2).val = i 2) (e3 : (y 3).val = i 3) :
    ∀ a, (![t, 0, 0, 0] : Fin 4 → ℕ) a * s a + (y a : ℕ) = i a := fun a => by
  match a with
  | ⟨0, _⟩ => show t * s 0 + (y 0).val = (i 0).val; rw [h1]; omega
  | ⟨1, _⟩ => show 0 * s 1 + (y 1).val = (i 1).val; omega
  | ⟨2, _⟩ => show 0 * s 2 + (y 2).val = (i 2).val; omega
  | ⟨3, _⟩ => show 0 * s 3 + (y 3).val = (i 3).val; omega

/-- The same for the position blocks: the second axis at block `K`. -/
theorem walk3 {s s' : Fin 3 → ℕ} (t b K : ℕ) (hb : b = t) (h1 : s 0 = 1) (h2 : s 1 = 1024) (y : (⟨3, s⟩ : Shape).Idx) (i : (⟨3, s'⟩ : Shape).Idx)
    (y0 : (y 0).val = 0) (i0 : (i 0).val = b) (e1 : (i 1).val = 1024 * K + y 1) (e2 : (y 2).val = i 2) :
    ∀ a, (![t, K, 0] : Fin 3 → ℕ) a * s a + (y a : ℕ) = i a := fun a => by
  match a with
  | ⟨0, _⟩ => show t * s 0 + (y 0).val = (i 0).val; rw [h1]; omega
  | ⟨1, _⟩ => show K * s 1 + (y 1).val = (i 1).val; rw [h2]; omega
  | ⟨2, _⟩ => show 0 * s 2 + (y 2).val = (i 2).val; omega

/-- A block that is its whole array. -/
theorem walk2 {s s' : Fin 2 → ℕ} (y : (⟨2, s⟩ : Shape).Idx) (i : (⟨2, s'⟩ : Shape).Idx)
    (e0 : (y 0).val = i 0) (e1 : (y 1).val = i 1) : ∀ a, (![0, 0] : Fin 2 → ℕ) a * s a + (y a : ℕ) = i a := fun a => by
  match a with
  | ⟨0, _⟩ => show 0 * s 0 + (y 0).val = (i 0).val; omega
  | ⟨1, _⟩ => show 0 * s 1 + (y 1).val = (i 1).val; omega

/-! ## Launch 0 -/

theorem index0 : (∀ t : Fin grid0.N, win0_0.index t = ![t.val, 0, 0]) ∧ (∀ t : Fin grid0.N, win0_1.index t = ![0, 0])
    ∧ (∀ t : Fin grid0.N, win0_2.index t = ![t.val, 0, 0, 0]) ∧ (∀ t : Fin grid0.N, win0_3.index t = ![0, 0])
    ∧ (∀ t : Fin grid0.N, win0_4.index t = ![t.val, 0, 0, 0]) ∧ ∀ t : Fin grid0.N, win0_5.index t = ![t.val, 0, 0, 0] := by decide +kernel

theorem score0 (b : Fin 2) (h : Fin 8) (r : Fin 1024) :
    blockScore (iblk0 V c 0 b) (iblk0 V c 1 b) (iblk0 V c 2 b) (iblk0 V c 3 b) h r
      = entryScore (V c main_arg0) (V c main_v0) (V c main_v1) (V c main_v2) b (pos 0 r) h := by
  obtain ⟨e0, e1, e2, e3, -, -⟩ := index0
  unfold blockScore entryScore
  congr 1
  · exact funext fun k => congrArg (V c main_arg0) (emb_eq win0_0 rfl b _ (ix3 b (pos 0 r) k) (e0 b) (walk3 _ _ _ rfl rfl rfl _ _ rfl rfl rfl rfl))
  · exact funext fun k => congrArg (V c main_v2) (emb_eq win0_3 rfl b _ (ix2 (0 : Fin 1) k) (e3 b) (walk2 _ _ rfl rfl))
  · exact funext fun o => funext fun k => congrArg (V c main_v0) (emb_eq win0_1 rfl b _ (ix2 k o) (e1 b) (walk2 _ _ rfl rfl))
  · exact funext fun d => funext fun k => congrArg (V c main_v1) (emb_eq win0_2 rfl b _ (ix4 b h d k) (e2 b) (walk4 _ _ rfl rfl _ _ rfl rfl rfl rfl rfl))

theorem arr0_4 (b : Fin 2) (h : Fin 8) (j : Fin 16) (r : Fin 1024) :
    (dat0 V c).arrAt 4 cfg0.N (ix4 b h j r) = out0_4 (iblk0 V c 0 b) (iblk0 V c 1 b) (iblk0 V c 2 b) (iblk0 V c 3 b) (ix4 (0 : Fin 1) h j r) := by
  have hf := (dat0 V c).arrAt_emb_eq_flushed 4 (Window.hdisj_of_index_inj win0_4 (by decide +kernel)) b (flush0_4 _) (ix4 (0 : Fin 1) h j r)
  have hi : ((cfg0.win 4).blk b).view.emb (ix4 (0 : Fin 1) h j r) = ix4 b h j r :=
    emb_eq win0_4 rfl b _ (ix4 b h j r) (index0.2.2.2.2.1 b) (walk4 _ _ rfl rfl _ _ rfl rfl rfl rfl rfl)
  rw [hi] at hf
  exact hf.trans (congrFun (after0_4 V c b) _)

theorem arr0_5 (b : Fin 2) (h : Fin 8) (j : Fin 16) (r : Fin 1024) :
    (dat0 V c).arrAt 5 cfg0.N (ix4 b h j r) = out0_5 (iblk0 V c 0 b) (iblk0 V c 1 b) (iblk0 V c 2 b) (iblk0 V c 3 b) (ix4 (0 : Fin 1) h j r) := by
  have hf := (dat0 V c).arrAt_emb_eq_flushed 5 (Window.hdisj_of_index_inj win0_5 (by decide +kernel)) b (flush0_5 _) (ix4 (0 : Fin 1) h j r)
  have hi : ((cfg0.win 5).blk b).view.emb (ix4 (0 : Fin 1) h j r) = ix4 b h j r :=
    emb_eq win0_5 rfl b _ (ix4 b h j r) (index0.2.2.2.2.2 b) (walk4 _ _ rfl rfl _ _ rfl rfl rfl rfl rfl)
  rw [hi] at hf
  exact hf.trans (congrFun (after0_5 V c b) _)

theorem launch0_W (b : Fin 2) (h : Fin 8) (j : Fin 16) (r : Fin 1024)
    (hS : Clear (entryScore (V c main_arg0) (V c main_v0) (V c main_v1) (V c main_v2) b (pos 0 r) h) ((pos 0 r).val / 64)) :
    (dat0 V c).arrAt 4 cfg0.N (ix4 b h j r) = slotWeight (entryScore (V c main_arg0) (V c main_v0) (V c main_v1) (V c main_v2) b (pos 0 r) h)
      (kept (entryScore (V c main_arg0) (V c main_v0) (V c main_v1) (V c main_v2) b (pos 0 r) h) ((pos 0 r).val / 64)) j.val := by
  rw [← score0] at hS ⊢
  rw [arr0_4, out0_4_eq]
  exact blockW_apply _ _ _ _ (by decide) false (R := 0) rfl (by decide) h r hS j

theorem launch0_I (b : Fin 2) (h : Fin 8) (j : Fin 16) (r : Fin 1024)
    (hS : Clear (entryScore (V c main_arg0) (V c main_v0) (V c main_v1) (V c main_v2) b (pos 0 r) h) ((pos 0 r).val / 64)) :
    (dat0 V c).arrAt 5 cfg0.N (ix4 b h j r) = BitVec.ofNat 32 (slotChunk
      (kept (entryScore (V c main_arg0) (V c main_v0) (V c main_v1) (V c main_v2) b (pos 0 r) h) ((pos 0 r).val / 64)) j.val) := by
  rw [← score0] at hS ⊢
  rw [arr0_5, out0_5_eq]
  exact blockI_apply _ _ _ _ (by decide) false (R := 0) rfl (by decide) h r hS j

/-! ## Launch 1 -/

theorem index1 : (∀ t : Fin grid1.N, win1_0.index t = ![t.val, 1, 0]) ∧ (∀ t : Fin grid1.N, win1_1.index t = ![0, 0])
    ∧ (∀ t : Fin grid1.N, win1_2.index t = ![t.val, 0, 0, 0]) ∧ (∀ t : Fin grid1.N, win1_3.index t = ![0, 0])
    ∧ (∀ t : Fin grid1.N, win1_4.index t = ![t.val, 0, 0, 0]) ∧ ∀ t : Fin grid1.N, win1_5.index t = ![t.val, 0, 0, 0] := by decide +kernel

theorem score1 (b : Fin 2) (h : Fin 8) (r : Fin 1024) :
    blockScore (iblk1 V c 0 b) (iblk1 V c 1 b) (iblk1 V c 2 b) (iblk1 V c 3 b) h r
      = entryScore (V c main_arg0) (V c main_v0) (V c main_v1) (V c main_v2) b (pos 1 r) h := by
  obtain ⟨e0, e1, e2, e3, -, -⟩ := index1
  unfold blockScore entryScore
  congr 1
  · exact funext fun k => congrArg (V c main_arg0) (emb_eq win1_0 rfl b _ (ix3 b (pos 1 r) k) (e0 b) (walk3 _ _ _ rfl rfl rfl _ _ rfl rfl rfl rfl))
  · exact funext fun k => congrArg (V c main_v2) (emb_eq win1_3 rfl b _ (ix2 (0 : Fin 1) k) (e3 b) (walk2 _ _ rfl rfl))
  · exact funext fun o => funext fun k => congrArg (V c main_v0) (emb_eq win1_1 rfl b _ (ix2 k o) (e1 b) (walk2 _ _ rfl rfl))
  · exact funext fun d => funext fun k => congrArg (V c main_v1) (emb_eq win1_2 rfl b _ (ix4 b h d k) (e2 b) (walk4 _ _ rfl rfl _ _ rfl rfl rfl rfl rfl))

theorem arr1_4 (b : Fin 2) (h : Fin 8) (j : Fin 16) (r : Fin 1024) :
    (dat1 V c).arrAt 4 cfg1.N (ix4 b h j r) = out1_4 (iblk1 V c 0 b) (iblk1 V c 1 b) (iblk1 V c 2 b) (iblk1 V c 3 b) (ix4 (0 : Fin 1) h j r) := by
  have hf := (dat1 V c).arrAt_emb_eq_flushed 4 (Window.hdisj_of_index_inj win1_4 (by decide +kernel)) b (flush1_4 _) (ix4 (0 : Fin 1) h j r)
  have hi : ((cfg1.win 4).blk b).view.emb (ix4 (0 : Fin 1) h j r) = ix4 b h j r :=
    emb_eq win1_4 rfl b _ (ix4 b h j r) (index1.2.2.2.2.1 b) (walk4 _ _ rfl rfl _ _ rfl rfl rfl rfl rfl)
  rw [hi] at hf
  exact hf.trans (congrFun (after1_4 V c b) _)

theorem arr1_5 (b : Fin 2) (h : Fin 8) (j : Fin 16) (r : Fin 1024) :
    (dat1 V c).arrAt 5 cfg1.N (ix4 b h j r) = out1_5 (iblk1 V c 0 b) (iblk1 V c 1 b) (iblk1 V c 2 b) (iblk1 V c 3 b) (ix4 (0 : Fin 1) h j r) := by
  have hf := (dat1 V c).arrAt_emb_eq_flushed 5 (Window.hdisj_of_index_inj win1_5 (by decide +kernel)) b (flush1_5 _) (ix4 (0 : Fin 1) h j r)
  have hi : ((cfg1.win 5).blk b).view.emb (ix4 (0 : Fin 1) h j r) = ix4 b h j r :=
    emb_eq win1_5 rfl b _ (ix4 b h j r) (index1.2.2.2.2.2 b) (walk4 _ _ rfl rfl _ _ rfl rfl rfl rfl rfl)
  rw [hi] at hf
  exact hf.trans (congrFun (after1_5 V c b) _)

theorem launch1_W (b : Fin 2) (h : Fin 8) (j : Fin 16) (r : Fin 1024)
    (hS : Clear (entryScore (V c main_arg0) (V c main_v0) (V c main_v1) (V c main_v2) b (pos 1 r) h) ((pos 1 r).val / 64)) :
    (dat1 V c).arrAt 4 cfg1.N (ix4 b h j r) = slotWeight (entryScore (V c main_arg0) (V c main_v0) (V c main_v1) (V c main_v2) b (pos 1 r) h)
      (kept (entryScore (V c main_arg0) (V c main_v0) (V c main_v1) (V c main_v2) b (pos 1 r) h) ((pos 1 r).val / 64)) j.val := by
  rw [← score1] at hS ⊢
  rw [arr1_4, out1_4_eq]
  exact blockW_apply _ _ _ _ (by decide) true (R := 1024) rfl (by decide) h r hS j

theorem launch1_I (b : Fin 2) (h : Fin 8) (j : Fin 16) (r : Fin 1024)
    (hS : Clear (entryScore (V c main_arg0) (V c main_v0) (V c main_v1) (V c main_v2) b (pos 1 r) h) ((pos 1 r).val / 64)) :
    (dat1 V c).arrAt 5 cfg1.N (ix4 b h j r) = BitVec.ofNat 32 (slotChunk
      (kept (entryScore (V c main_arg0) (V c main_v0) (V c main_v1) (V c main_v2) b (pos 1 r) h) ((pos 1 r).val / 64)) j.val) := by
  rw [← score1] at hS ⊢
  rw [arr1_5, out1_5_eq]
  exact blockI_apply _ _ _ _ (by decide) true (R := 1024) rfl (by decide) h r hS j

/-! ## Launch 2 -/

theorem index2 : (∀ t : Fin grid2.N, win2_0.index t = ![t.val, 2, 0]) ∧ (∀ t : Fin grid2.N, win2_1.index t = ![0, 0])
    ∧ (∀ t : Fin grid2.N, win2_2.index t = ![t.val, 0, 0, 0]) ∧ (∀ t : Fin grid2.N, win2_3.index t = ![0, 0])
    ∧ (∀ t : Fin grid2.N, win2_4.index t = ![t.val, 0, 0, 0]) ∧ ∀ t : Fin grid2.N, win2_5.index t = ![t.val, 0, 0, 0] := by decide +kernel

theorem score2 (b : Fin 2) (h : Fin 8) (r : Fin 1024) :
    blockScore (iblk2 V c 0 b) (iblk2 V c 1 b) (iblk2 V c 2 b) (iblk2 V c 3 b) h r
      = entryScore (V c main_arg0) (V c main_v0) (V c main_v1) (V c main_v2) b (pos 2 r) h := by
  obtain ⟨e0, e1, e2, e3, -, -⟩ := index2
  unfold blockScore entryScore
  congr 1
  · exact funext fun k => congrArg (V c main_arg0) (emb_eq win2_0 rfl b _ (ix3 b (pos 2 r) k) (e0 b) (walk3 _ _ _ rfl rfl rfl _ _ rfl rfl rfl rfl))
  · exact funext fun k => congrArg (V c main_v2) (emb_eq win2_3 rfl b _ (ix2 (0 : Fin 1) k) (e3 b) (walk2 _ _ rfl rfl))
  · exact funext fun o => funext fun k => congrArg (V c main_v0) (emb_eq win2_1 rfl b _ (ix2 k o) (e1 b) (walk2 _ _ rfl rfl))
  · exact funext fun d => funext fun k => congrArg (V c main_v1) (emb_eq win2_2 rfl b _ (ix4 b h d k) (e2 b) (walk4 _ _ rfl rfl _ _ rfl rfl rfl rfl rfl))

theorem arr2_4 (b : Fin 2) (h : Fin 8) (j : Fin 16) (r : Fin 1024) :
    (dat2 V c).arrAt 4 cfg2.N (ix4 b h j r) = out2_4 (iblk2 V c 0 b) (iblk2 V c 1 b) (iblk2 V c 2 b) (iblk2 V c 3 b) (ix4 (0 : Fin 1) h j r) := by
  have hf := (dat2 V c).arrAt_emb_eq_flushed 4 (Window.hdisj_of_index_inj win2_4 (by decide +kernel)) b (flush2_4 _) (ix4 (0 : Fin 1) h j r)
  have hi : ((cfg2.win 4).blk b).view.emb (ix4 (0 : Fin 1) h j r) = ix4 b h j r :=
    emb_eq win2_4 rfl b _ (ix4 b h j r) (index2.2.2.2.2.1 b) (walk4 _ _ rfl rfl _ _ rfl rfl rfl rfl rfl)
  rw [hi] at hf
  exact hf.trans (congrFun (after2_4 V c b) _)

theorem arr2_5 (b : Fin 2) (h : Fin 8) (j : Fin 16) (r : Fin 1024) :
    (dat2 V c).arrAt 5 cfg2.N (ix4 b h j r) = out2_5 (iblk2 V c 0 b) (iblk2 V c 1 b) (iblk2 V c 2 b) (iblk2 V c 3 b) (ix4 (0 : Fin 1) h j r) := by
  have hf := (dat2 V c).arrAt_emb_eq_flushed 5 (Window.hdisj_of_index_inj win2_5 (by decide +kernel)) b (flush2_5 _) (ix4 (0 : Fin 1) h j r)
  have hi : ((cfg2.win 5).blk b).view.emb (ix4 (0 : Fin 1) h j r) = ix4 b h j r :=
    emb_eq win2_5 rfl b _ (ix4 b h j r) (index2.2.2.2.2.2 b) (walk4 _ _ rfl rfl _ _ rfl rfl rfl rfl rfl)
  rw [hi] at hf
  exact hf.trans (congrFun (after2_5 V c b) _)

theorem launch2_W (b : Fin 2) (h : Fin 8) (j : Fin 16) (r : Fin 1024)
    (hS : Clear (entryScore (V c main_arg0) (V c main_v0) (V c main_v1) (V c main_v2) b (pos 2 r) h) ((pos 2 r).val / 64)) :
    (dat2 V c).arrAt 4 cfg2.N (ix4 b h j r) = slotWeight (entryScore (V c main_arg0) (V c main_v0) (V c main_v1) (V c main_v2) b (pos 2 r) h)
      (kept (entryScore (V c main_arg0) (V c main_v0) (V c main_v1) (V c main_v2) b (pos 2 r) h) ((pos 2 r).val / 64)) j.val := by
  rw [← score2] at hS ⊢
  rw [arr2_4, out2_4_eq]
  exact blockW_apply _ _ _ _ (by decide) true (R := 2048) rfl (by decide) h r hS j

theorem launch2_I (b : Fin 2) (h : Fin 8) (j : Fin 16) (r : Fin 1024)
    (hS : Clear (entryScore (V c main_arg0) (V c main_v0) (V c main_v1) (V c main_v2) b (pos 2 r) h) ((pos 2 r).val / 64)) :
    (dat2 V c).arrAt 5 cfg2.N (ix4 b h j r) = BitVec.ofNat 32 (slotChunk
      (kept (entryScore (V c main_arg0) (V c main_v0) (V c main_v1) (V c main_v2) b (pos 2 r) h) ((pos 2 r).val / 64)) j.val) := by
  rw [← score2] at hS ⊢
  rw [arr2_5, out2_5_eq]
  exact blockI_apply _ _ _ _ (by decide) true (R := 2048) rfl (by decide) h r hS j

/-! ## Launch 3 -/

theorem index3 : (∀ t : Fin grid3.N, win3_0.index t = ![t.val, 3, 0]) ∧ (∀ t : Fin grid3.N, win3_1.index t = ![0, 0])
    ∧ (∀ t : Fin grid3.N, win3_2.index t = ![t.val, 0, 0, 0]) ∧ (∀ t : Fin grid3.N, win3_3.index t = ![0, 0])
    ∧ (∀ t : Fin grid3.N, win3_4.index t = ![t.val, 0, 0, 0]) ∧ ∀ t : Fin grid3.N, win3_5.index t = ![t.val, 0, 0, 0] := by decide +kernel

theorem score3 (b : Fin 2) (h : Fin 8) (r : Fin 1024) :
    blockScore (iblk3 V c 0 b) (iblk3 V c 1 b) (iblk3 V c 2 b) (iblk3 V c 3 b) h r
      = entryScore (V c main_arg0) (V c main_v0) (V c main_v1) (V c main_v2) b (pos 3 r) h := by
  obtain ⟨e0, e1, e2, e3, -, -⟩ := index3
  unfold blockScore entryScore
  congr 1
  · exact funext fun k => congrArg (V c main_arg0) (emb_eq win3_0 rfl b _ (ix3 b (pos 3 r) k) (e0 b) (walk3 _ _ _ rfl rfl rfl _ _ rfl rfl rfl rfl))
  · exact funext fun k => congrArg (V c main_v2) (emb_eq win3_3 rfl b _ (ix2 (0 : Fin 1) k) (e3 b) (walk2 _ _ rfl rfl))
  · exact funext fun o => funext fun k => congrArg (V c main_v0) (emb_eq win3_1 rfl b _ (ix2 k o) (e1 b) (walk2 _ _ rfl rfl))
  · exact funext fun d => funext fun k => congrArg (V c main_v1) (emb_eq win3_2 rfl b _ (ix4 b h d k) (e2 b) (walk4 _ _ rfl rfl _ _ rfl rfl rfl rfl rfl))

theorem arr3_4 (b : Fin 2) (h : Fin 8) (j : Fin 16) (r : Fin 1024) :
    (dat3 V c).arrAt 4 cfg3.N (ix4 b h j r) = out3_4 (iblk3 V c 0 b) (iblk3 V c 1 b) (iblk3 V c 2 b) (iblk3 V c 3 b) (ix4 (0 : Fin 1) h j r) := by
  have hf := (dat3 V c).arrAt_emb_eq_flushed 4 (Window.hdisj_of_index_inj win3_4 (by decide +kernel)) b (flush3_4 _) (ix4 (0 : Fin 1) h j r)
  have hi : ((cfg3.win 4).blk b).view.emb (ix4 (0 : Fin 1) h j r) = ix4 b h j r :=
    emb_eq win3_4 rfl b _ (ix4 b h j r) (index3.2.2.2.2.1 b) (walk4 _ _ rfl rfl _ _ rfl rfl rfl rfl rfl)
  rw [hi] at hf
  exact hf.trans (congrFun (after3_4 V c b) _)

theorem arr3_5 (b : Fin 2) (h : Fin 8) (j : Fin 16) (r : Fin 1024) :
    (dat3 V c).arrAt 5 cfg3.N (ix4 b h j r) = out3_5 (iblk3 V c 0 b) (iblk3 V c 1 b) (iblk3 V c 2 b) (iblk3 V c 3 b) (ix4 (0 : Fin 1) h j r) := by
  have hf := (dat3 V c).arrAt_emb_eq_flushed 5 (Window.hdisj_of_index_inj win3_5 (by decide +kernel)) b (flush3_5 _) (ix4 (0 : Fin 1) h j r)
  have hi : ((cfg3.win 5).blk b).view.emb (ix4 (0 : Fin 1) h j r) = ix4 b h j r :=
    emb_eq win3_5 rfl b _ (ix4 b h j r) (index3.2.2.2.2.2 b) (walk4 _ _ rfl rfl _ _ rfl rfl rfl rfl rfl)
  rw [hi] at hf
  exact hf.trans (congrFun (after3_5 V c b) _)

theorem launch3_W (b : Fin 2) (h : Fin 8) (j : Fin 16) (r : Fin 1024)
    (hS : Clear (entryScore (V c main_arg0) (V c main_v0) (V c main_v1) (V c main_v2) b (pos 3 r) h) ((pos 3 r).val / 64)) :
    (dat3 V c).arrAt 4 cfg3.N (ix4 b h j r) = slotWeight (entryScore (V c main_arg0) (V c main_v0) (V c main_v1) (V c main_v2) b (pos 3 r) h)
      (kept (entryScore (V c main_arg0) (V c main_v0) (V c main_v1) (V c main_v2) b (pos 3 r) h) ((pos 3 r).val / 64)) j.val := by
  rw [← score3] at hS ⊢
  rw [arr3_4, out3_4_eq]
  exact blockW_apply _ _ _ _ (by decide) true (R := 3072) rfl (by decide) h r hS j

theorem launch3_I (b : Fin 2) (h : Fin 8) (j : Fin 16) (r : Fin 1024)
    (hS : Clear (entryScore (V c main_arg0) (V c main_v0) (V c main_v1) (V c main_v2) b (pos 3 r) h) ((pos 3 r).val / 64)) :
    (dat3 V c).arrAt 5 cfg3.N (ix4 b h j r) = BitVec.ofNat 32 (slotChunk
      (kept (entryScore (V c main_arg0) (V c main_v0) (V c main_v1) (V c main_v2) b (pos 3 r) h) ((pos 3 r).val / 64)) j.val) := by
  rw [← score3] at hS ⊢
  rw [arr3_5, out3_5_eq]
  exact blockI_apply _ _ _ _ (by decide) true (R := 3072) rfl (by decide) h r hS j

end Cert.KernelIdeal.Final

end
-- ==== Proof.KernelResult.lean ====
/- The kernel's two computed results, entry by entry, from the arguments. -/
module

public import proofs.«01_k».proof.Proof.Launches
public import Idealize.ShloMosaic.Lib.StableHlo.Run

@[expose] public section

set_option maxRecDepth 16384

noncomputable section

namespace Cert.KernelIdeal.Final

open Idealize.ShloMosaic Idealize.ShloMosaic.TcCoe Idealize.ShloMosaic.ValueIdx Idealize.ShloMosaic.StableHlo
open Idealize.ShloMosaic.Pipeline (Dat Window)
open Cert.KernelIdeal Cert.KernelIdeal.Gen Cert.Spec Cert.Head

/-! ## The host's lines -/

/-- Four row blocks side by side, read at a position. -/
theorem concat_apply {α : Type} (x : Fin 4 → (S2x8x16x1024.Idx → α)) (hc) (K : Fin 4) (b : Fin 2) (h : Fin 8) (j : Fin 16) (r : Fin 1024) :
    concatenate S2x8x16x4096 3 [⟨S2x8x16x1024, x 0⟩, ⟨S2x8x16x1024, x 1⟩, ⟨S2x8x16x1024, x 2⟩, ⟨S2x8x16x1024, x 3⟩] hc (ix4 b h j (pos K r))
      = x K (ix4 b h j r) := by
  have off : ∀ a : Fin 4, a ≠ 3 → ((ix4 b h j r : S2x8x16x1024.Idx) a).val = ((ix4 b h j (pos K r) : S2x8x16x4096.Idx) a).val := by
    intro a ha
    match a with
    | ⟨0, _⟩ => rfl
    | ⟨1, _⟩ => rfl
    | ⟨2, _⟩ => rfl
    | ⟨3, _⟩ => exact absurd rfl ha
  match K with
  | ⟨0, _⟩ => exact concatenate_apply_piece 3 _ hc _ 0 (by simp) S2x8x16x1024 _ rfl rfl 0 rfl _ off rfl
  | ⟨1, _⟩ => exact concatenate_apply_piece 3 _ hc _ 1 (by simp) S2x8x16x1024 _ rfl rfl 1024 rfl _ off rfl
  | ⟨2, _⟩ => exact concatenate_apply_piece 3 _ hc _ 2 (by simp) S2x8x16x1024 _ rfl rfl 2048 rfl _ off rfl
  | ⟨3, _⟩ => exact concatenate_apply_piece 3 _ hc _ 3 (by simp) S2x8x16x1024 _ rfl rfl 3072 rfl _ off rfl

section host
variable (X : Valuation τ sig (Elt Ideal))

/-- The weights: the four launches' blocks side by side, positions before heads and slots. -/
theorem after4_v9 : after hostOps4 X (Proc.devRef .tc main_v9)
    = transpose S2x4096x8x16 [0, 3, 1, 2] (concatenate S2x8x16x4096 3 [⟨S2x8x16x1024, X (Proc.devRef .tc main_v3_0)⟩, ⟨S2x8x16x1024, X (Proc.devRef .tc main_v4_0)⟩,
      ⟨S2x8x16x1024, X (Proc.devRef .tc main_v5_0)⟩, ⟨S2x8x16x1024, X (Proc.devRef .tc main_v6_0)⟩] concatenates_S2x8x16x1024_S2x8x16x1024_S2x8x16x1024_S2x8x16x1024_S2x8x16x4096_d3) transposes_S2x8x16x4096_S2x4096x8x16_0_3_1_2 := by
  unfold hostOps4
  after_results
  rfl

/-- The chunk numbers the same way. -/
theorem after4_v10 : after hostOps4 X (Proc.devRef .tc main_v10)
    = transpose S2x4096x8x16 [0, 3, 1, 2] (concatenate S2x8x16x4096 3 [⟨S2x8x16x1024, X (Proc.devRef .tc main_v3_1)⟩, ⟨S2x8x16x1024, X (Proc.devRef .tc main_v4_1)⟩,
      ⟨S2x8x16x1024, X (Proc.devRef .tc main_v5_1)⟩, ⟨S2x8x16x1024, X (Proc.devRef .tc main_v6_1)⟩] concatenates_S2x8x16x1024_S2x8x16x1024_S2x8x16x1024_S2x8x16x1024_S2x8x16x4096_d3) transposes_S2x8x16x4096_S2x4096x8x16_0_3_1_2 := by
  unfold hostOps4
  after_results
  rfl

theorem after0_v0 : after hostOps0 X (Proc.devRef .tc main_v0) = transpose S2048x512 [1, 0] (X (Proc.devRef .tc main_arg3)) transposes_S512x2048_S2048x512_1_0 := by
  unfold hostOps0
  after_results

theorem after0_v1 : after hostOps0 X (Proc.devRef .tc main_v1)
    = transpose S2x8x64x64 [0, 2, 1, 3] (X (Proc.devRef .tc main_arg1)) transposes_S2x64x8x64_S2x8x64x64_0_2_1_3 := by
  unfold hostOps0
  after_results

theorem after0_v2 : after hostOps0 X (Proc.devRef .tc main_v2) = shapeCast S1x2048 (X (Proc.devRef .tc main_arg2)) shapeCasts_S2048_S1x2048 := by
  unfold hostOps0
  after_results
  rfl

end host

variable (m : (ℓ : Loc nD τ sig) → Buf (Elt Ideal) ℓ) (ρ : Dev nD → PrngReg) (c : Dev nD)

/-- The scores, from the launch memory's arguments. -/
abbrev memScore (b : Fin 2) (p : Fin 4096) (h : Fin 8) : ℕ → EReal :=
  argScore (m ((c : Thread nD τ).loc main_arg0)) (m ((c : Thread nD τ).loc main_arg1)) (m ((c : Thread nD τ).loc main_arg2)) (m ((c : Thread nD τ).loc main_arg3)) b p h

/-- The first launch reads the arguments: the projection transposed, the landmarks with heads before chunks, the norm
    weight as a row. -/
theorem entry_first (b : Fin 2) (p : Fin 4096) (h : Fin 8) :
    entryScore (V1 m ρ c main_arg0) (V1 m ρ c main_v0) (V1 m ρ c main_v1) (V1 m ρ c main_v2) b p h = memScore m c b p h := by
  unfold entryScore memScore argScore
  congr 1
  · funext k
    refine (congrFun (after0_v2 (W0 m ρ c)) _).trans ?_
    exact shapeCast_a_1a_apply _ _ _ _
  · funext o k
    refine (congrFun (after0_v0 (W0 m ρ c)) _).trans ?_
    refine transpose_apply _ _ _ _ _ fun a => ?_
    match a with
    | ⟨0, _⟩ => rfl
    | ⟨1, _⟩ => rfl
  · funext d k
    refine (congrFun (after0_v1 (W0 m ρ c)) _).trans ?_
    refine transpose_apply _ _ _ _ _ fun a => ?_
    match a with
    | ⟨0, _⟩ => rfl
    | ⟨1, _⟩ => rfl
    | ⟨2, _⟩ => rfl
    | ⟨3, _⟩ => rfl

theorem inputs0 (r : Ref sig .tc) (hr : r ∈ [main_arg0, main_v0, main_v1, main_v2]) : V2 m ρ c r = V1 m ρ c r :=
  W2_of m ρ c r (fun w hw => by
    subst hw; revert hr; revert w; decide +kernel)
theorem inputs1 (r : Ref sig .tc) (hr : r ∈ [main_arg0, main_v0, main_v1, main_v2]) : V3 m ρ c r = V2 m ρ c r :=
  W3_of m ρ c r (fun w hw => by
    subst hw; revert hr; revert w; decide +kernel)
theorem inputs2 (r : Ref sig .tc) (hr : r ∈ [main_arg0, main_v0, main_v1, main_v2]) : V4 m ρ c r = V3 m ρ c r :=
  W4_of m ρ c r (fun w hw => by
    subst hw; revert hr; revert w; decide +kernel)

theorem entry_second (b : Fin 2) (p : Fin 4096) (h : Fin 8) :
    entryScore (V2 m ρ c main_arg0) (V2 m ρ c main_v0) (V2 m ρ c main_v1) (V2 m ρ c main_v2) b p h = memScore m c b p h := by
  rw [inputs0 m ρ c main_arg0 (by decide), inputs0 m ρ c main_v0 (by decide), inputs0 m ρ c main_v1 (by decide), inputs0 m ρ c main_v2 (by decide)]
  exact entry_first m ρ c b p h
theorem entry_third (b : Fin 2) (p : Fin 4096) (h : Fin 8) :
    entryScore (V3 m ρ c main_arg0) (V3 m ρ c main_v0) (V3 m ρ c main_v1) (V3 m ρ c main_v2) b p h = memScore m c b p h := by
  rw [inputs1 m ρ c main_arg0 (by decide), inputs1 m ρ c main_v0 (by decide), inputs1 m ρ c main_v1 (by decide), inputs1 m ρ c main_v2 (by decide)]
  exact entry_second m ρ c b p h
theorem entry_fourth (b : Fin 2) (p : Fin 4096) (h : Fin 8) :
    entryScore (V4 m ρ c main_arg0) (V4 m ρ c main_v0) (V4 m ρ c main_v1) (V4 m ρ c main_v2) b p h = memScore m c b p h := by
  rw [inputs2 m ρ c main_arg0 (by decide), inputs2 m ρ c main_v0 (by decide), inputs2 m ρ c main_v1 (by decide), inputs2 m ρ c main_v2 (by decide)]
  exact entry_third m ρ c b p h

/-! ## The launches' arrays at the end -/

/-- The four weight arrays before the last host lines. -/
def weightBlocks : Fin 4 → (S2x8x16x1024.Idx → EReal) :=
  ![W5 m ρ c (Proc.devRef .tc main_v3_0), W5 m ρ c (Proc.devRef .tc main_v4_0), W5 m ρ c (Proc.devRef .tc main_v5_0), W5 m ρ c (Proc.devRef .tc main_v6_0)]
/-- The four chunk-number arrays before the last host lines. -/
def chunkBlocks : Fin 4 → (S2x8x16x1024.Idx → BitVec 32) :=
  ![W5 m ρ c (Proc.devRef .tc main_v3_1), W5 m ρ c (Proc.devRef .tc main_v4_1), W5 m ρ c (Proc.devRef .tc main_v5_1), W5 m ρ c (Proc.devRef .tc main_v6_1)]

theorem weightBlocks_apply (K : Fin 4) (b : Fin 2) (h : Fin 8) (j : Fin 16) (r : Fin 1024) (hS : Clear (memScore m c b (pos K r) h) ((pos K r).val / 64)) :
    weightBlocks m ρ c K (ix4 b h j r) = slotWeight (memScore m c b (pos K r) h) (kept (memScore m c b (pos K r) h) ((pos K r).val / 64)) j.val := by
  match K with
  | ⟨0, _⟩ =>
    have e : W5 m ρ c (Proc.devRef .tc main_v3_0) = (dat0 (V1 m ρ) c).arrAt 4 cfg0.N :=
      (W5_of_ne m ρ c main_v3_0 (by decide)).trans ((W4_of_ne m ρ c main_v3_0 (by decide)).trans ((W3_of_ne m ρ c main_v3_0 (by decide)).trans (W2_arr m ρ c 4)))
    refine (congrFun e _).trans ?_
    rw [← entry_first m ρ] at hS ⊢
    exact launch0_W _ c b h j r hS
  | ⟨1, _⟩ =>
    have e : W5 m ρ c (Proc.devRef .tc main_v4_0) = (dat1 (V2 m ρ) c).arrAt 4 cfg1.N :=
      (W5_of_ne m ρ c main_v4_0 (by decide)).trans ((W4_of_ne m ρ c main_v4_0 (by decide)).trans (W3_arr m ρ c 4))
    refine (congrFun e _).trans ?_
    rw [← entry_second m ρ] at hS ⊢
    exact launch1_W _ c b h j r hS
  | ⟨2, _⟩ =>
    have e : W5 m ρ c (Proc.devRef .tc main_v5_0) = (dat2 (V3 m ρ) c).arrAt 4 cfg2.N :=
      (W5_of_ne m ρ c main_v5_0 (by decide)).trans (W4_arr m ρ c 4)
    refine (congrFun e _).trans ?_
    rw [← entry_third m ρ] at hS ⊢
    exact launch2_W _ c b h j r hS
  | ⟨3, _⟩ =>
    refine (congrFun (W5_arr m ρ c 4) _).trans ?_
    rw [← entry_fourth m ρ] at hS ⊢
    exact launch3_W _ c b h j r hS

theorem chunkBlocks_apply (K : Fin 4) (b : Fin 2) (h : Fin 8) (j : Fin 16) (r : Fin 1024) (hS : Clear (memScore m c b (pos K r) h) ((pos K r).val / 64)) :
    chunkBlocks m ρ c K (ix4 b h j r) = BitVec.ofNat 32 (slotChunk (kept (memScore m c b (pos K r) h) ((pos K r).val / 64)) j.val) := by
  match K with
  | ⟨0, _⟩ =>
    have e : W5 m ρ c (Proc.devRef .tc main_v3_1) = (dat0 (V1 m ρ) c).arrAt 5 cfg0.N :=
      (W5_of_ne m ρ c main_v3_1 (by decide)).trans ((W4_of_ne m ρ c main_v3_1 (by decide)).trans ((W3_of_ne m ρ c main_v3_1 (by decide)).trans (W2_arr m ρ c 5)))
    refine (congrFun e _).trans ?_
    rw [← entry_first m ρ] at hS ⊢
    exact launch0_I _ c b h j r hS
  | ⟨1, _⟩ =>
    have e : W5 m ρ c (Proc.devRef .tc main_v4_1) = (dat1 (V2 m ρ) c).arrAt 5 cfg1.N :=
      (W5_of_ne m ρ c main_v4_1 (by decide)).trans ((W4_of_ne m ρ c main_v4_1 (by decide)).trans (W3_arr m ρ c 5))
    refine (congrFun e _).trans ?_
    rw [← entry_second m ρ] at hS ⊢
    exact launch1_I _ c b h j r hS
  | ⟨2, _⟩ =>
    have e : W5 m ρ c (Proc.devRef .tc main_v5_1) = (dat2 (V3 m ρ) c).arrAt 5 cfg2.N :=
      (W5_of_ne m ρ c main_v5_1 (by decide)).trans (W4_arr m ρ c 5)
    refine (congrFun e _).trans ?_
    rw [← entry_third m ρ] at hS ⊢
    exact launch2_I _ c b h j r hS
  | ⟨3, _⟩ =>
    refine (congrFun (W5_arr m ρ c 5) _).trans ?_
    rw [← entry_fourth m ρ] at hS ⊢
    exact launch3_I _ c b h j r hS

/-! ## The results -/

theorem pos_surj (p : Fin 4096) : ∃ K r, p = pos K r := ⟨⟨p.val / 1024, by omega⟩, ⟨p.val % 1024, by omega⟩, Fin.ext (by simp; omega)⟩

/-- The weights the kernel returns. -/
theorem result_W (b : Fin 2) (p : Fin 4096) (h : Fin 8) (j : Fin 16) (hS : Clear (memScore m c b p h) (p.val / 64)) :
    W6 m ρ c (Proc.devRef .tc main_v9) (ix4 b p h j) = slotWeight (memScore m c b p h) (kept (memScore m c b p h) (p.val / 64)) j.val := by
  obtain ⟨K, r, rfl⟩ := pos_surj p
  refine (congrFun (after4_v9 (W5 m ρ c)) _).trans ?_
  refine (transpose_apply _ _ _ _ (ix4 b h j (pos K r)) fun a => ?_).trans ?_
  · match a with
    | ⟨0, _⟩ => rfl
    | ⟨1, _⟩ => rfl
    | ⟨2, _⟩ => rfl
    | ⟨3, _⟩ => rfl
  · exact (concat_apply (weightBlocks m ρ c) _ K b h j r).trans (weightBlocks_apply m ρ c K b h j r hS)

/-- The chunk numbers the kernel returns. -/
theorem result_I (b : Fin 2) (p : Fin 4096) (h : Fin 8) (j : Fin 16) (hS : Clear (memScore m c b p h) (p.val / 64)) :
    W6 m ρ c (Proc.devRef .tc main_v10) (ix4 b p h j) = BitVec.ofNat 32 (slotChunk (kept (memScore m c b p h) (p.val / 64)) j.val) := by
  obtain ⟨K, r, rfl⟩ := pos_surj p
  refine (congrFun (after4_v10 (W5 m ρ c)) _).trans ?_
  refine (transpose_apply _ _ _ _ (ix4 b h j (pos K r)) fun a => ?_).trans ?_
  · match a with
    | ⟨0, _⟩ => rfl
    | ⟨1, _⟩ => rfl
    | ⟨2, _⟩ => rfl
    | ⟨3, _⟩ => rfl
  · exact (concat_apply (chunkBlocks m ρ c) _ K b h j r).trans (chunkBlocks_apply m ρ c K b h j r hS)

end Cert.KernelIdeal.Final

end
-- ==== Proof.Listing.lean ====
/- The sorted side: a stable descending sort of the masked scores puts the kept chunks first, and a descending list of
   the kept chunks, padded with −1, holds in each place the chunk with that many kept chunks after it. -/
module

public import proofs.«01_k».proof.Proof.Spec
public import Idealize.ShloMosaic.Lib.SortFacts

@[expose] public section

noncomputable section

namespace Cert.Spec

open Idealize.ShloMosaic Finset

section sorting
variable {n : ℕ} (s : Fin n → EReal)

/-- Descending order of the scores. -/
def descending (a b : Fin n) : Bool := decide (s b < s a)

/-- Where the stable sort stands: scores fall, and equal scores stand in the order of their indices. -/
def inOrder (a b : Fin n) : Prop := s b < s a ∨ s a = s b ∧ a < b

theorem inOrder_insert (a : Fin n) (l : List (Fin n)) (hl : l.Pairwise (inOrder s)) (ha : ∀ b ∈ l, a < b) :
    (insertBefore (descending s) a l).Pairwise (inOrder s) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact Or.inl (of_decide_eq_true h)
      · exact hl.1 c hc'
    · rename_i h
      have hba : s b ≤ s a := not_lt.1 fun hh => h (decide_eq_true hh)
      refine List.pairwise_cons.mpr ⟨fun c hc => ?_, List.pairwise_cons.mpr hl⟩
      have hcb : s c ≤ s b := by
        rcases List.mem_cons.mp hc with rfl | hc'
        · exact le_refl _
        · rcases hl.1 c hc' with h | h
          · exact h.le
          · exact h.1.ge
      rcases lt_or_eq_of_le (hcb.trans hba) with h | h
      · exact Or.inl h
      · exact Or.inr ⟨h.symm, ha c hc⟩

theorem inOrder_sort (l : List (Fin n)) (hl : l.Pairwise (· < ·)) : (stableSort (descending s) l).Pairwise (inOrder s) := by
  induction l with
  | nil => exact List.Pairwise.nil
  | cons a l ih =>
    rw [List.pairwise_cons] at hl
    unfold stableSort
    exact inOrder_insert s a _ (ih hl.2) fun b hb => hl.1 b ((perm_stableSort _ l).mem_iff.mp hb)

/-- The element a stable descending sort puts at `k`. -/
def place (k : Fin n) : Fin n := sortedFrom (descending s) k

theorem place_inOrder {i j : Fin n} (hij : i < j) : inOrder s (place s i) (place s j) := by
  have hp : ∀ a b : Fin (sortPositions n (descending s)).length, a < b →
      inOrder s ((sortPositions n (descending s)).get a) ((sortPositions n (descending s)).get b) :=
    List.pairwise_iff_get.mp (inOrder_sort s (List.finRange n) (List.pairwise_lt_finRange n))
  exact hp _ _ (by simp only [Fin.lt_def, Fin.val_cast]; exact hij)

theorem place_le {i j : Fin n} (hij : i ≤ j) : s (place s j) ≤ s (place s i) := by
  rcases hij.eq_or_lt with rfl | h
  · exact le_refl _
  · rcases place_inOrder s h with h | h
    · exact h.le
    · exact h.1.ge

theorem place_inj : Function.Injective (place s) := sortedFrom_injective _
theorem place_surj : Function.Surjective (place s) := sortedFrom_surjective _

end sorting

/-- The masked scores: −∞ on the chunks not visible. -/
def masked (n : ℕ) (S : ℕ → EReal) (nv : ℕ) : Fin n → EReal := fun d => if d.val < nv then S d.val else ⊥

theorem card_fin_val_lt {n m : ℕ} (h : m ≤ n) : (univ.filter fun i : Fin n => i.val < m).card = m := by
  rw [card_filter, Fin.sum_univ_eq_sum_range (fun d => if d < m then 1 else 0), ← card_filter]
  have : (range n).filter (fun d => d < m) = range m := by
    ext d; simp only [mem_filter, mem_range]; omega
  rw [this, card_range]

theorem card_fin_lt {n : ℕ} (k : Fin n) : (univ.filter fun i : Fin n => i < k).card = k.val := by
  rw [← card_fin_val_lt k.isLt.le]
  rfl

/-- The first sixteen places, as many as are visible, hold kept chunks. -/
theorem place_kept {n : ℕ} {S : ℕ → EReal} {nv : ℕ} (hn : nv ≤ n) (hS : Clear S nv) {j : Fin n} (h16 : j.val < 16)
    (hj : j.val < nv) : (place (masked n S nv) j).val ∈ kept S nv := by
  set s := masked n S nv with hs
  have hvis : (place s j).val < nv := by
    by_contra hh
    have hb : s (place s j) = ⊥ := if_neg hh
    -- every visible chunk stands before place `j`
    have hbefore : ∀ i : Fin n, (place s i).val < nv → i < j := by
      intro i hi
      by_contra hij
      rcases (not_lt.1 hij).eq_or_lt with h | h
      · exact hh (h ▸ hi)
      · rcases place_inOrder s h with h' | h'
        · rw [hb] at h'; exact not_lt_bot h'
        · have := h'.2; rw [Fin.lt_def] at this; omega
    have h1 : (univ.filter fun i : Fin n => (place s i).val < nv) ⊆ univ.filter fun i : Fin n => i < j := by
      intro i hi
      exact mem_filter.2 ⟨mem_univ i, hbefore i (mem_filter.1 hi).2⟩
    have h2 := card_le_card h1
    rw [card_fin_lt] at h2
    have h3 : (univ.filter fun i : Fin n => (place s i).val < nv).card = nv := by
      conv_rhs => rw [← card_fin_val_lt hn]
      refine card_bij (fun i _ => place s i) (fun i hi => ?_) (fun a _ b _ hab => place_inj s hab) (fun d hd => ?_)
      · exact mem_filter.2 ⟨mem_univ _, (mem_filter.1 hi).2⟩
      · obtain ⟨i, rfl⟩ := place_surj s d
        exact ⟨i, mem_filter.2 ⟨mem_univ _, (mem_filter.1 hd).2⟩, rfl⟩
    omega
  refine mem_filter.2 ⟨mem_range.2 hvis, ?_⟩
  by_cases h : nv ≤ 16
  · exact Or.inl h
  refine Or.inr ?_
  -- those above stand in earlier places
  have hsj : s (place s j) = S (place s j).val := if_pos hvis
  have hle : rank S nv (place s j).val ≤ (univ.filter fun i : Fin n => i < j).card := by
    unfold rank
    refine card_le_card_of_surjOn (fun i => (place s i).val) ?_
    intro e he
    have he' := mem_filter.1 (mem_coe.1 he)
    have hev : e < nv := mem_range.1 he'.1
    obtain ⟨i, hi⟩ := place_surj s ⟨e, by omega⟩
    refine ⟨i, mem_coe.2 (mem_filter.2 ⟨mem_univ i, ?_⟩), by show (place s i).val = e; rw [hi]⟩
    by_contra hij
    have h1 := place_le s (not_lt.1 hij)
    have h2 : s (place s i) = S e := by rw [hi]; exact if_pos hev
    rw [h2, hsj] at h1
    exact absurd he'.2 (not_lt.2 h1)
  rw [card_fin_lt] at hle
  omega

/-- Every kept chunk stands in one of those places. -/
theorem kept_place {n : ℕ} {S : ℕ → EReal} {nv : ℕ} (hn : nv ≤ n) (hS : Clear S nv) {d : ℕ} (hd : d ∈ kept S nv) :
    ∃ j : Fin n, j.val < 16 ∧ j.val < nv ∧ (place (masked n S nv) j).val = d := by
  set s := masked n S nv with hs
  -- the first `min 16 nv` places hold kept chunks, all different
  have hdv : d < nv := mem_range.1 (kept_subset S nv hd)
  by_cases h : nv ≤ 16
  · -- as many as there are kept chunks
    have himg : (univ.filter fun i : Fin n => i.val < nv).image (fun i => (place s i).val) = range nv := by
      refine eq_of_subset_of_card_le (fun x hx => ?_) ?_
      · obtain ⟨i, hi, rfl⟩ := mem_image.1 hx
        have hi' := (mem_filter.1 hi).2
        exact kept_subset S nv (place_kept hn hS (by omega) hi')
      · rw [card_range, card_image_of_injective _ fun a b hab => place_inj s (Fin.ext hab), card_fin_val_lt hn]
    have hm : d ∈ range nv := mem_range.2 hdv
    rw [← himg] at hm
    obtain ⟨i, hi, hid⟩ := mem_image.1 hm
    have hi' := (mem_filter.1 hi).2
    exact ⟨i, by omega, hi', hid⟩
  · obtain ⟨j, hj⟩ := place_surj s ⟨d, by omega⟩
    obtain ⟨hb, hinj⟩ := hS (by omega)
    have hr : rank S nv d < 16 := by
      rcases (mem_filter.1 hd).2 with h' | h'
      · exact absurd h' h
      · exact h'
    have hsd : s (place s j) = S d := by rw [hj]; exact if_pos hdv
    have hle : (univ.filter fun i : Fin n => i < j).card ≤ rank S nv d := by
      refine card_le_card_of_injOn (fun i => (place s i).val) (fun i hi => ?_)
        (fun a _ b _ hab => place_inj s (Fin.ext hab))
      have hij : i < j := (mem_filter.1 (mem_coe.1 hi)).2
      have h1 := place_le s hij.le
      rw [hsd] at h1
      have hiv : (place s i).val < nv := by
        by_contra hh
        have h2 : s (place s i) = ⊥ := if_neg hh
        rw [h2] at h1
        exact hb d hdv (le_bot_iff.1 h1)
      have h2 : s (place s i) = S (place s i).val := if_pos hiv
      rw [h2] at h1
      refine mem_coe.2 (mem_filter.2 ⟨mem_range.2 hiv, lt_of_le_of_ne h1 fun he => ?_⟩)
      have h3 := hinj _ hdv _ hiv he
      have h4 : place s i = place s j := by rw [hj]; exact Fin.ext h3.symm
      exact absurd (place_inj s h4) hij.ne
    rw [card_fin_lt] at hle
    exact ⟨j, by omega, by omega, by rw [hj]⟩

section listing
variable {m : ℕ} {T : Finset ℕ} {b : Fin m → ℤ}

/-- A descending list that holds every chunk of `T` once, and −1 elsewhere. -/
structure Lists (T : Finset ℕ) (b : Fin m → ℤ) : Prop where
  anti : ∀ i j, i < j → b j ≤ b i
  mem : ∀ j, b j = -1 ∨ ∃ d ∈ T, b j = d
  all : ∀ d ∈ T, ∃ j, b j = d
  once : ∀ i j, 0 ≤ b i → b i = b j → i = j

/-- The place of a chunk is the number of chunks after it. -/
theorem Lists.place_eq (h : Lists T b) {d : ℕ} (hd : d ∈ T) {j : Fin m} (hj : b j = d) : after T d = j.val := by
  rw [after, ← card_fin_lt j]
  symm
  refine card_bij (fun i _ => (b i).toNat) (fun i hi => ?_) (fun a ha c hc hac => ?_) (fun e he => ?_)
  · have hij : i < j := (mem_filter.1 hi).2
    have h1 := h.anti i j hij
    rcases h.mem i with h2 | ⟨e, he, h2⟩
    · omega
    · rw [h2, Int.toNat_natCast]
      refine mem_filter.2 ⟨he, lt_of_le_of_ne (by omega) fun hde => ?_⟩
      subst hde
      exact hij.ne (h.once i j (by omega) (h2.trans hj.symm))
  · have h1 := h.anti a j (mem_filter.1 ha).2
    have h2 := h.anti c j (mem_filter.1 hc).2
    exact h.once a c (by omega) (by have hac' : (b a).toNat = (b c).toNat := hac; omega)
  · have he' := mem_filter.1 he
    obtain ⟨i, hi⟩ := h.all e he'.1
    refine ⟨i, mem_filter.2 ⟨mem_univ i, ?_⟩, by rw [hi, Int.toNat_natCast]⟩
    by_contra hij
    rcases (not_lt.1 hij).eq_or_lt with h1 | h1
    · rw [← h1, hj] at hi; omega
    · have := h.anti j i h1; omega

/-- A place with −1: no chunk goes there. -/
theorem Lists.place_empty (h : Lists T b) {j : Fin m} (hj : b j = -1) : ∀ d ∈ T, after T d ≠ j.val := by
  intro d hd he
  obtain ⟨i, hi⟩ := h.all d hd
  have := h.place_eq hd hi
  have hij : i = j := Fin.ext (this.symm.trans he)
  rw [hij, hj] at hi
  omega

/-- Summing down to a chunk's place is summing over the chunks from it on. -/
theorem Lists.sum_le (h : Lists T b) {d : ℕ} {j : Fin m} (hj : b j = d) (g : ℕ → EReal) :
    ∑ i ∈ univ.filter (fun i => i ≤ j), g (b i).toNat = ∑ e ∈ T.filter (fun e => d ≤ e), g e := by
  have hle : ∀ i, i ≤ j → b j ≤ b i := by
    intro i hi
    rcases hi.eq_or_lt with rfl | hi
    · exact le_refl _
    · exact h.anti i j hi
  refine sum_bij (fun i _ => (b i).toNat) (fun i hi => ?_) (fun a ha c hc hac => ?_) (fun e he => ?_) (fun i _ => rfl)
  · have h1 := hle i (mem_filter.1 hi).2
    rcases h.mem i with h2 | ⟨e, he, h2⟩
    · omega
    · rw [h2, Int.toNat_natCast]; exact mem_filter.2 ⟨he, by omega⟩
  · have h1 := hle a (mem_filter.1 ha).2
    have h2 := hle c (mem_filter.1 hc).2
    exact h.once a c (by omega) (by have hac' : (b a).toNat = (b c).toNat := hac; omega)
  · have he' := mem_filter.1 he
    obtain ⟨i, hi⟩ := h.all e he'.1
    refine ⟨i, mem_filter.2 ⟨mem_univ i, ?_⟩, by rw [hi, Int.toNat_natCast]⟩
    by_contra hij
    have h1 := h.anti j i (not_le.1 hij)
    have h2 : e = d := by omega
    subst h2
    exact hij (h.once i j (by omega) (by omega)).le

end listing

end Cert.Spec

end
-- ==== Proof.RefScores.lean ====
/- The reference's scores, and the scores with the chunks not yet visible at −∞. -/
module

public import proofs.«01_k».proof.Proof.Gen.ReferenceIdeal.Read
public import proofs.«01_k».proof.Proof.Scores
public import proofs.«01_k».proof.Proof.Listing
public import proofs.«01_k».proof.Proof.HeadOps
public import Idealize.ShloMosaic.Lib.IdealHost
public import Idealize.ShloMosaic.Lib.WordArith

@[expose] public section

set_option maxRecDepth 16384

noncomputable section

namespace Cert.ReferenceIdeal.Final

open Idealize.ShloMosaic Idealize.ShloMosaic.TcCoe Idealize.ShloMosaic.ValueIdx
open Cert.ReferenceIdeal Cert.ReferenceIdeal.Gen Cert.ReferenceIdeal.Read Cert.Spec Cert.Head

theorem c_eight : Ideal.ofBits .f32 0x41000000#32 = ((8 : ℝ) : EReal) := by
  simp [Ideal.ofBits, Ideal.ieee, -EReal.coe_mul]; norm_num

variable (X : S2x4096x2048.Idx → EReal) (L : S2x64x8x64.Idx → EReal) (P : S2048.Idx → EReal) (W : S512x2048.Idx → EReal)

/-- The normalised hidden state. -/
theorem normed_apply (b : Fin 2) (p : Fin 4096) (k : Fin 2048) :
    val_main_v12 (F := Ideal) X P (ix3 b p k)
      = X (ix3 b p k) * Ideal.rsqrt (Ideal.div (∑ l : Fin 2048, X (ix3 b p l) * X (ix3 b p l)) (Ideal.ofBits .f32 0x45000000#32) + Ideal.ofBits .f32 0x358637BD#32) * P (ix1 k) := by
  rw [val_main_v12_apply, val_main_v11_apply, val_main_v10_apply, val_main_v9_apply, val_main_v8_apply, val_main_v7_apply, val_main_v6_apply,
    val_main_v4_apply, val_main_v2_apply, val_main_v1_apply]
  have e0 : (idx_main_v10 (idx_main_v11 (ix3 b p k)) : S2048.Idx) = ix1 k := funext fun a => match a with | ⟨0, _⟩ => rfl
  have e1 : ∀ l : Fin 2048, val_main_v0 (F := Ideal) X (idx_main_v1 (idx_main_v2 (idx_main_v8 (ix3 b p k))) l) = X (ix3 b p l) * X (ix3 b p l) := by
    intro l
    have e : idx_main_v1 (idx_main_v2 (idx_main_v8 (ix3 b p k))) l = ix3 b p l := funext fun a => match a with
      | ⟨0, _⟩ => rfl
      | ⟨1, _⟩ => rfl
      | ⟨2, _⟩ => rfl
    rw [e]
    rfl
  rw [e0, Finset.sum_congr rfl fun l _ => e1 l]
  have e2 : val_main_cst (F := Ideal) (Shape.Idx.first h_S_) = 0 := Ideal.ofBits_zero_f32
  rw [e2, zero_add]
  exact mul_comm _ _

/-- The reference's score of a chunk is the score of the mathematics. -/
theorem score_apply (b : Fin 2) (p : Fin 4096) (h : Fin 8) (d : Fin 64) :
    val_main_v19 (F := Ideal) X L P W (ix4 b p h d) = argScore X L P W b p h d.val := by
  have e8 : val_main_v18 (F := Ideal) (ix4 b p h d) = ((8 : ℝ) : EReal) := (val_main_v18_apply _).trans c_eight
  rw [val_main_v19_apply, e8, val_main_v17_apply, val_main_v16_apply]
  refine (Ideal.div_coe (by norm_num) _).trans ?_
  unfold argScore
  rw [score_of_lt]
  congr 1
  refine Finset.sum_congr rfl fun k _ => ?_
  have e0 : (lidx_main_v16 (idx_main_v17 (ix4 b p h d)) k : S2x64x8x64.Idx) = ix4 b d h k := funext fun a => match a with
    | ⟨0, _⟩ => rfl
    | ⟨1, _⟩ => rfl
    | ⟨2, _⟩ => rfl
    | ⟨3, _⟩ => rfl
  have e1 : (ridx_main_v16 (idx_main_v17 (ix4 b p h d)) k : S2x4096x8x64.Idx) = ix4 b p h k := funext fun a => match a with
    | ⟨0, _⟩ => rfl
    | ⟨1, _⟩ => rfl
    | ⟨2, _⟩ => rfl
    | ⟨3, _⟩ => rfl
  rw [e0, e1, val_main_v15_apply, val_main_v14_apply]
  congr 1
  unfold query
  refine Finset.sum_congr rfl fun l _ => ?_
  have e2 : (lidx_main_v14 (idx_main_v15 (ix4 b p h k)) l : S2x4096x2048.Idx) = ix3 b p l := funext fun a => match a with
    | ⟨0, _⟩ => Fin.ext (by show (((b.val * 4096 + p.val) * 8 + h.val) * 64 + k.val) / 2097152 = b.val; omega)
    | ⟨1, _⟩ => Fin.ext (by show (((b.val * 4096 + p.val) * 8 + h.val) * 64 + k.val) / 512 % 4096 = p.val; omega)
    | ⟨2, _⟩ => rfl
  have e3 : (idx_main_v13 (ridx_main_v14 (idx_main_v15 (ix4 b p h k)) l) : S512x2048.Idx) = ix2 (headCol h k) l := funext fun a => match a with
    | ⟨0, _⟩ => Fin.ext (by show (((b.val * 4096 + p.val) * 8 + h.val) * 64 + k.val) % 512 = 64 * h.val + k.val; omega)
    | ⟨1, _⟩ => rfl
  rw [val_main_v13_apply, e2, e3, normed_apply]

/-- Chunks that end after the position are masked. -/
theorem mask_apply (b : Fin 2) (p : Fin 4096) (h : Fin 8) (d : Fin 64) :
    val_main_v31 (F := Ideal) (ix4 b p h d) = bit (p.val / 64 ≤ d.val) := by
  rw [val_main_v31_apply, val_main_v30_apply, val_main_v28_apply, val_main_v29_apply, val_main_v27_apply, val_main_v26_apply, val_main_v25_apply, val_main_v24_apply,
    val_main_v23_apply, val_main_v21_apply, val_main_v20_apply, val_main_v22_apply, val_main_c_apply, val_main_c_3_apply]
  have e0 : ((idx_main_v21 (idx_main_v28 (idx_main_v31 (ix4 b p h d))) : S4096.Idx) 0).val = p.val := by
    show ((0 * 4096 + p.val) * 1 + 0) * 1 + 0 = p.val; omega
  have e1 : ((idx_main_v23 (idx_main_v29 (idx_main_v31 (ix4 b p h d))) : S64.Idx) 0).val = d.val := by
    show ((0 * 1 + 0) * 1 + 0) * 64 + d.val = d.val; omega
  rw [e0, e1]
  have e2 : IntOp.muli (IntOp.addi 1#32 (BitVec.ofNat 32 d.val)) 64#32 = BitVec.ofNat 32 ((1 + d.val) * 64) := by
    rw [BitVec.ofNat_mul, BitVec.ofNat_add]; rfl
  rw [e2]
  show BitVec.ofBool ((BitVec.ofNat 32 p.val).slt (BitVec.ofNat 32 ((1 + d.val) * 64))) = _
  rw [slt_ofNat (by omega) (by omega)]
  congr 1
  rw [decide_eq_decide]
  omega

/-- The scores the reference sorts. -/
theorem masked_apply (b : Fin 2) (p : Fin 4096) (h : Fin 8) (d : Fin 64) :
    val_main_v32 (F := Ideal) X L P W (ix4 b p h d) = masked 64 (argScore X L P W b p h) (p.val / 64) d := by
  have eb : val_main_call0_v1 (F := Ideal) (ix4 b p h d) = ⊥ := (val_main_call0_v1_apply _).trans c_bot
  rw [val_main_v32_apply, mask_apply, eb, score_apply, select_bit]
  unfold masked
  by_cases hd : d.val < p.val / 64
  · rw [if_pos hd, if_neg (by omega)]
  · rw [if_neg hd, if_pos (by omega)]

end Cert.ReferenceIdeal.Final

end
-- ==== Proof.RefSorted.lean ====
/- The reference's list of chunks: the sixteen greatest scores' chunks, −1 where there are fewer, in falling order. -/
module

public import proofs.«01_k».proof.Proof.RefScores

@[expose] public section

set_option maxRecDepth 16384

noncomputable section

namespace Cert.Spec

open Idealize.ShloMosaic

/-- The chunk of the `j`-th greatest score, −1 from the number of visible chunks on. -/
def pick (S : ℕ → EReal) (nv : ℕ) (j : Fin 16) : ℤ := if j.val < nv then ((place (masked 64 S nv) ⟨j.val, by omega⟩).val : ℤ) else -1

theorem pick_bounds (S : ℕ → EReal) (nv : ℕ) (j : Fin 16) : -1 ≤ pick S nv j ∧ pick S nv j < 64 := by
  unfold pick
  split <;> omega

/-- Falling order of those. -/
def falling (S : ℕ → EReal) (nv : ℕ) (j : Fin 16) : Fin 16 := sortedFrom (fun k k' : Fin 16 => decide (pick S nv k' < pick S nv k)) j

/-- The list in falling order lists the kept chunks. -/
theorem lists_falling {S : ℕ → EReal} {nv : ℕ} (hn : nv ≤ 64) (hS : Clear S nv) : Lists (kept S nv) (fun j => pick S nv (falling S nv j)) where
  anti i j hij := by
    have := sortedFrom_noInversion (fun k k' : Fin 16 => decide (pick S nv k' < pick S nv k)) (fun k k' => decide (pick S nv k' < pick S nv k))
      (by intro a b h; simp only [decide_eq_true_eq, decide_eq_false_iff_not] at *; omega) (fun _ _ h => h)
      (by intro a b c h h'; simp only [decide_eq_false_iff_not] at *; omega) i j hij
    simp only [decide_eq_false_iff_not] at this
    exact not_lt.1 this
  mem j := by
    show pick S nv (falling S nv j) = -1 ∨ ∃ d ∈ kept S nv, pick S nv (falling S nv j) = d
    generalize falling S nv j = k
    by_cases hk : k.val < nv
    · have hp := place_kept (n := 64) (j := ⟨k.val, by omega⟩) hn hS k.isLt hk
      exact Or.inr ⟨_, hp, by rw [pick, if_pos hk]⟩
    · exact Or.inl (by rw [pick, if_neg hk])
  all d hd := by
    obtain ⟨i, h16, hi, rfl⟩ := kept_place hn hS hd
    obtain ⟨j, hj⟩ := sortedFrom_surjective (fun k k' : Fin 16 => decide (pick S nv k' < pick S nv k)) ⟨i.val, h16⟩
    refine ⟨j, ?_⟩
    show pick S nv (falling S nv j) = _
    unfold falling
    rw [hj, pick, if_pos hi]
  once i j h0 h := by
    have inj : ∀ k l : Fin 16, 0 ≤ pick S nv k → pick S nv k = pick S nv l → k = l := by
      intro k l hk hkl
      by_cases h1 : k.val < nv
      · by_cases h2 : l.val < nv
        · rw [pick, if_pos h1, pick, if_pos h2] at hkl
          have := congrArg Fin.val (place_inj _ (Fin.ext (Int.ofNat.inj hkl)))
          exact Fin.ext this
        · rw [hkl, pick, if_neg h2] at hk; omega
      · rw [pick, if_neg h1] at hk; omega
    exact sortedFrom_injective _ (inj _ _ h0 h)

end Cert.Spec

namespace Cert.ReferenceIdeal.Final

open Idealize.ShloMosaic Idealize.ShloMosaic.TcCoe Idealize.ShloMosaic.ValueIdx
open Cert.ReferenceIdeal Cert.ReferenceIdeal.Gen Cert.ReferenceIdeal.Read Cert.Spec Cert.Head

variable (X : S2x4096x2048.Idx → EReal) (L : S2x64x8x64.Idx → EReal) (P : S2048.Idx → EReal) (W : S512x2048.Idx → EReal)

theorem along64 (b : Fin 2) (p : Fin 4096) (h : Fin 8) (d : Fin 64) (k : Fin 64) :
    (ix4 b p h d : S2x4096x8x64.Idx).along 3 k = ix4 b p h k := funext fun a => match a with
  | ⟨0, _⟩ => rfl
  | ⟨1, _⟩ => rfl
  | ⟨2, _⟩ => rfl
  | ⟨3, _⟩ => rfl

theorem along16 (b : Fin 2) (p : Fin 4096) (h : Fin 8) (j : Fin 16) (k : Fin 16) :
    (ix4 b p h j : S2x4096x8x16.Idx).along 3 k = ix4 b p h k := funext fun a => match a with
  | ⟨0, _⟩ => rfl
  | ⟨1, _⟩ => rfl
  | ⟨2, _⟩ => rfl
  | ⟨3, _⟩ => rfl

/-- The sixteen greatest of a row: their indices. -/
theorem topK_apply (x : S2x4096x8x64.Idx → EReal) (hs) (b : Fin 2) (p : Fin 4096) (h : Fin 8) (j : Fin 16) :
    (Host.topK S2x4096x8x16 3 (FloatOps.cmpfTotal (F := Ideal) (φ := .f32) .gt) x hs).2 (ix4 b p h j)
      = BitVec.ofNat 32 (place (fun d => x (ix4 b p h d)) ⟨j.val, by omega⟩).val := by
  have e : (Host.topK S2x4096x8x16 3 (FloatOps.cmpfTotal (F := Ideal) (φ := .f32) .gt) x hs).2
      = extractStridedSlice S2x4096x8x16 (fun _ => 0) (Host.sort2 S2x4096x8x64 3
        (fun l r : EReal × BitVec 32 => FloatOps.cmpfTotal (F := Ideal) (φ := .f32) .gt l.1 r.1) x (iotaInDim S2x4096x8x64 32 3)).2 hs := rfl
  rw [e]
  refine (extractStridedSlice_apply _ _ hs (ix4 b p h j) (ix4 b p h ⟨j.val, by omega⟩) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · generalize (⟨j.val, by omega⟩ : Fin 64) = d
    have e2 : (Host.sort2 S2x4096x8x64 3 (fun l r : EReal × BitVec 32 => FloatOps.cmpfTotal (F := Ideal) (φ := .f32) .gt l.1 r.1) x (iotaInDim S2x4096x8x64 32 3)).2 (ix4 b p h d)
      = iotaInDim S2x4096x8x64 32 3 ((ix4 b p h d : S2x4096x8x64.Idx).along 3 (sortedFrom (fun k k' : Fin 64 =>
        FloatOps.cmpfTotal (F := Ideal) (φ := .f32) .gt (x ((ix4 b p h d : S2x4096x8x64.Idx).along 3 k)) (x ((ix4 b p h d : S2x4096x8x64.Idx).along 3 k')) == 1#1) d)) := rfl
    rw [e2]
    have e3 : (fun k k' : Fin 64 => FloatOps.cmpfTotal (F := Ideal) (φ := .f32) .gt (x ((ix4 b p h d : S2x4096x8x64.Idx).along 3 k)) (x ((ix4 b p h d : S2x4096x8x64.Idx).along 3 k')) == 1#1)
        = descending (fun d => x (ix4 b p h d)) := by
      funext k k'
      rw [along64, along64]
      show (BitVec.ofBool (decide (x (ix4 b p h k') < x (ix4 b p h k))) == 1#1) = decide _
      cases decide (x (ix4 b p h k') < x (ix4 b p h k)) <;> rfl
    have e4 : ∀ k : Fin 64, iotaInDim S2x4096x8x64 32 3 ((ix4 b p h d : S2x4096x8x64.Idx).along 3 k) = BitVec.ofNat 32 k.val := by
      intro k
      rw [along64]
      rfl
    rw [e3]
    exact e4 (place (fun d => x (ix4 b p h d)) d)

/-- The chunk of the `j`-th greatest score. -/
theorem indices_apply (b : Fin 2) (p : Fin 4096) (h : Fin 8) (j : Fin 16) :
    val_main_indices (F := Ideal) X L P W (ix4 b p h j)
      = BitVec.ofNat 32 (place (masked 64 (argScore X L P W b p h) (p.val / 64)) ⟨j.val, by omega⟩).val := by
  unfold val_main_indices
  refine (topK_apply (val_main_v32 (F := Ideal) X L P W) _ b p h j).trans ?_
  rw [show (fun d => val_main_v32 (F := Ideal) X L P W (ix4 b p h d)) = masked 64 (argScore X L P W b p h) (p.val / 64) from
    funext fun d => masked_apply X L P W b p h d]

/-- A word's sign as a word. -/
def signWord (x : BitVec 32) : BitVec 32 := if x = 0 then 0 else if x.msb then -1 else 1

/-- A position's word divided by 64, rounded down as the reference writes it. -/
theorem floor_div : ∀ p : Fin 4096,
    Scalar.select (IntOp.andi (IntOp.cmpi .ne (signWord (BitVec.ofNat 32 p.val)) (signWord 64#32)) (IntOp.cmpi .ne (IntOp.remsi .host (BitVec.ofNat 32 p.val) 64#32) 0#32))
      (IntOp.subi (IntOp.divsi .host (BitVec.ofNat 32 p.val) 64#32) 1#32) (IntOp.divsi .host (BitVec.ofNat 32 p.val) 64#32) = BitVec.ofNat 32 (p.val / 64) := by
  decide +kernel

/-- The number of chunks that end before a position. -/
theorem chunks_apply (i : S1x4096x1x1.Idx) : val_main_v34 (F := Ideal) i = BitVec.ofNat 32 ((i 1).val / 64) := by
  have ex : val_main_v21 (F := Ideal) i = BitVec.ofNat 32 (i 1).val := by
    rw [val_main_v21_apply, val_main_v20_apply]
    have h0 : (i 0).val < 1 := (i 0).isLt
    have h2 : (i 2).val < 1 := (i 2).isLt
    have h3 : (i 3).val < 1 := (i 3).isLt
    exact congrArg (BitVec.ofNat 32) (by show (((i 0).val * 4096 + (i 1).val) * 1 + (i 2).val) * 1 + (i 3).val = _; omega)
  have e3 : val_main_call1_v3 (F := Ideal) i = signWord (val_main_v21 (F := Ideal) i) := rfl
  have e5 : val_main_call1_v5 (F := Ideal) i = signWord 64#32 := val_main_call1_v5_apply _
  have e1 : val_main_call1_v1 (F := Ideal) i = 64#32 := val_main_call1_v1_apply _
  have e7 : val_main_call1_v7 (F := Ideal) i = 64#32 := val_main_call1_v7_apply _
  have e9 : val_main_call1_v9 (F := Ideal) i = 0#32 := val_main_call1_v9_apply _
  have e12 : val_main_call1_v12 (F := Ideal) i = 1#32 := val_main_call1_v12_apply _
  rw [val_main_v34_apply, val_main_call1_v11_apply, val_main_call1_v13_apply, val_main_call1_v10_apply, val_main_call1_v6_apply, val_main_call1_v8_apply, val_main_call1_v2_apply,
    e3, e5, e1, e7, e9, e12, ex]
  exact floor_div (i 1)

/-- Which places hold a visible chunk. -/
theorem visible_apply (b : Fin 2) (p : Fin 4096) (h : Fin 8) (j : Fin 16) :
    val_main_v39 (F := Ideal) (ix4 b p h j) = bit (j.val < p.val / 64) := by
  rw [val_main_v39_apply, val_main_v38_apply, val_main_v37_apply, val_main_v36_apply, val_main_v35_apply, val_main_v33_apply, chunks_apply]
  have e0 : ((idx_main_v36 (idx_main_v39 (ix4 b p h j)) : S1x4096x1x1.Idx) 1).val = p.val := rfl
  have e1 : ((idx_main_v35 (idx_main_v37 (idx_main_v39 (ix4 b p h j))) : S16.Idx) 0).val = j.val := rfl
  rw [e0, e1]
  show BitVec.ofBool ((BitVec.ofNat 32 j.val).slt (BitVec.ofNat 32 (p.val / 64))) = _
  rw [slt_ofNat (by omega) (by omega)]

/-- What the reference lists before it orders: the chunks of the greatest scores, −1 past the visible ones. -/
theorem picked_apply (b : Fin 2) (p : Fin 4096) (h : Fin 8) (j : Fin 16) :
    val_main_v40 (F := Ideal) X L P W (ix4 b p h j) = BitVec.ofInt 32 (pick (argScore X L P W b p h) (p.val / 64) j) := by
  have ec : val_main_call2_v1 (F := Ideal) (ix4 b p h j) = BitVec.ofInt 32 (-1) := (val_main_call2_v1_apply _).trans (show (4294967295#32 : BitVec 32) = BitVec.ofInt 32 (-1) by decide)
  rw [val_main_v40_apply, visible_apply, indices_apply, ec, select_bit]
  unfold pick
  split
  · rw [BitVec.ofInt_natCast]
  · rfl

/-- The list in falling order. -/
theorem ordered_apply (b : Fin 2) (p : Fin 4096) (h : Fin 8) (j : Fin 16) :
    val_main_v43 (F := Ideal) X L P W (ix4 b p h j)
      = BitVec.ofInt 32 (pick (argScore X L P W b p h) (p.val / 64) (falling (argScore X L P W b p h) (p.val / 64) j)) := by
  have e1 : ∀ k : Fin 16, val_main_v41 (F := Ideal) X L P W (ix4 b p h k) = BitVec.ofInt 32 (-pick (argScore X L P W b p h) (p.val / 64) k) := by
    intro k
    rw [val_main_v41_apply, picked_apply, BitVec.ofInt_neg]
  rw [val_main_v43_apply]
  unfold val_main_v42
  generalize val_main_v41 (F := Ideal) X L P W = y at e1
  generalize argScore X L P W b p h = S at e1
  have e2 : Host.sort S2x4096x8x16 3 comparator_i32_d3 y (ix4 b p h j)
      = y ((ix4 b p h j : S2x4096x8x16.Idx).along 3 (sortedFrom (fun k k' : Fin 16 =>
          comparator_i32_d3 (y ((ix4 b p h j : S2x4096x8x16.Idx).along 3 k)) (y ((ix4 b p h j : S2x4096x8x16.Idx).along 3 k')) == 1#1) j)) := rfl
  have e3 : (fun k k' : Fin 16 => comparator_i32_d3 (y ((ix4 b p h j : S2x4096x8x16.Idx).along 3 k)) (y ((ix4 b p h j : S2x4096x8x16.Idx).along 3 k')) == 1#1)
      = fun k k' => decide (pick S (p.val / 64) k' < pick S (p.val / 64) k) := by
    funext k k'
    rw [along16, along16, e1, e1]
    obtain ⟨h1, h2⟩ := pick_bounds S (p.val / 64) k
    obtain ⟨h3, h4⟩ := pick_bounds S (p.val / 64) k'
    generalize pick S (p.val / 64) k = u at *
    generalize pick S (p.val / 64) k' = v at *
    show (BitVec.ofBool ((BitVec.ofInt 32 (-u)).slt (BitVec.ofInt 32 (-v))) == 1#1) = decide (v < u)
    rw [BitVec.slt, BitVec.toInt_ofInt_eq_self (by decide) (by norm_num; omega) (by norm_num; omega),
      BitVec.toInt_ofInt_eq_self (by decide) (by norm_num; omega) (by norm_num; omega), decide_eq_decide.2 (show -u < -v ↔ v < u by omega)]
    cases decide (v < u) <;> rfl
  rw [e2, e3]
  refine (congrArg Neg.neg ((congrArg y (along16 b p h j _)).trans (e1 _))).trans ?_
  rw [← BitVec.ofInt_neg, neg_neg]
  rfl

end Cert.ReferenceIdeal.Final

end
-- ==== Proof.RefGather.lean ====
/- The scores of the listed chunks, as the reference looks them up: −∞ where its list holds −1. -/
module

public import proofs.«01_k».proof.Proof.RefSorted

@[expose] public section

set_option maxRecDepth 16384

noncomputable section

namespace Cert.ReferenceIdeal.Final

open Idealize.ShloMosaic Idealize.ShloMosaic.TcCoe Idealize.ShloMosaic.ValueIdx
open Cert.ReferenceIdeal Cert.ReferenceIdeal.Gen Cert.ReferenceIdeal.Read Cert.Spec Cert.Head

/-- The look-up along the chunks reads, in its own row, the chunk its index names. -/
theorem lookup_apply (x : S2x4096x8x64.Idx → EReal) (idx : IVec S2x4096x8x16x1 32) (b : Fin 2) (p : Fin 4096) (h : Fin 8) (j : Fin 16) (n : Fin 64)
    (hi : idx (ix5 b p h j 0) = BitVec.ofNat 32 n.val) :
    Host.gather gather_S2x4096x8x64_S2x4096x8x16x1_S2x4096x8x16_n_3_012_012_3_4_1111 x idx (ix4 b p h j) = x (ix4 b p h n) := by
  set D := gather_S2x4096x8x64_S2x4096x8x16x1_S2x4096x8x16_n_3_012_012_3_4_1111 with hD
  unfold Host.gather
  refine congrArg x (funext fun a => Fin.ext ?_)
  show D.start (ix4 b p h j) idx a + D.batchCoord (ix4 b p h j) a + D.offCoord (ix4 b p h j) a = _
  have hb : ∀ a : Fin 4, a ∈ D.operandBatchingDims → D.start (ix4 b p h j) idx a + D.batchCoord (ix4 b p h j) a + D.offCoord (ix4 b p h j) a = D.batchCoord (ix4 b p h j) a := by
    intro a ha
    rw [GatherDims.start_batching _ _ _ _ ha, GatherDims.offCoord_eq_zero _ _ _ (fun hh => ((GatherDims.mem_sKept _ _).mp hh).2 ha)]
    omega
  match a with
  | ⟨0, _⟩ => exact (hb 0 (by decide)).trans rfl
  | ⟨1, _⟩ => exact (hb 1 (by decide)).trans rfl
  | ⟨2, _⟩ => exact (hb 2 (by decide)).trans rfl
  | ⟨3, _⟩ =>
    show D.start (ix4 b p h j) idx (3 : Fin 4) + D.batchCoord (ix4 b p h j) (3 : Fin 4) + D.offCoord (ix4 b p h j) (3 : Fin 4) = n.val
    rw [GatherDims.batchCoord_eq_zero D _ _ (by decide), GatherDims.offCoord_eq_zero D _ _ (fun hh => ((GatherDims.mem_sKept _ _).mp hh).1 (by decide))]
    unfold GatherDims.start
    rw [dif_pos (show (3 : Fin 4) ∈ D.startIndexMap by decide)]
    have hs : D.siIdx (ix4 b p h j) ⟨List.idxOf (3 : Fin 4) D.startIndexMap, List.idxOf_lt_length_iff.2 (by decide)⟩ = ix5 b p h j 0 := by
      funext c
      refine Fin.ext ?_
      match c with
      | ⟨0, _⟩ => rfl
      | ⟨1, _⟩ => rfl
      | ⟨2, _⟩ => rfl
      | ⟨3, _⟩ => rfl
      | ⟨4, _⟩ => rfl
    rw [hs, hi, WordArith.toInt_ofNat_small _ (by omega)]
    show min ((n.val : ℤ)).toNat (64 - 1) + 0 + 0 = n.val
    omega

/-- A conjunction of bits that are all set is set. -/
theorem foldl_andi {ι : Type} (l : List ι) (f : ι → BitVec 1) (hf : ∀ n, f n = 1#1) : l.foldl (fun r n => IntOp.andi r (f n)) 1#1 = 1#1 := by
  induction l with
  | nil => rfl
  | cons a l ih =>
    rw [List.foldl_cons, hf]
    exact ih

variable (X : S2x4096x2048.Idx → EReal) (L : S2x64x8x64.Idx → EReal) (P : S2048.Idx → EReal) (W : S512x2048.Idx → EReal)

/-- The list in falling order, at a row. -/
abbrev listed (b : Fin 2) (p : Fin 4096) (h : Fin 8) (j : Fin 16) : ℤ :=
  pick (argScore X L P W b p h) (p.val / 64) (falling (argScore X L P W b p h) (p.val / 64) j)

theorem listed_bounds (b : Fin 2) (p : Fin 4096) (h : Fin 8) (j : Fin 16) : -1 ≤ listed X L P W b p h j ∧ listed X L P W b p h j < 64 := pick_bounds _ _ _

theorem listed_apply (b : Fin 2) (p : Fin 4096) (h : Fin 8) (j : Fin 16) :
    val_main_v43 (F := Ideal) X L P W (ix4 b p h j) = BitVec.ofInt 32 (listed X L P W b p h j) := ordered_apply X L P W b p h j

/-- The places that hold no chunk. -/
theorem empty_apply (b : Fin 2) (p : Fin 4096) (h : Fin 8) (j : Fin 16) :
    val_main_v45 (F := Ideal) X L P W (ix4 b p h j) = bit (listed X L P W b p h j = -1) := by
  have e : val_main_v44 (F := Ideal) (ix4 b p h j) = BitVec.ofInt 32 (-1) :=
    (val_main_v44_apply _).trans (show (4294967295#32 : BitVec 32) = BitVec.ofInt 32 (-1) by decide)
  rw [val_main_v45_apply, listed_apply, e]
  obtain ⟨h1, h2⟩ := listed_bounds X L P W b p h j
  generalize listed X L P W b p h j = z at *
  show BitVec.ofBool (BitVec.ofInt 32 z == BitVec.ofInt 32 (-1)) = BitVec.ofBool (decide (z = -1))
  congr 1
  rw [Bool.eq_iff_iff, beq_iff_eq, decide_eq_true_eq]
  refine ⟨fun hz => ?_, fun hz => by rw [hz]⟩
  have := congrArg BitVec.toInt hz
  rwa [BitVec.toInt_ofInt_eq_self (by decide) (by norm_num; omega) (by norm_num; omega), BitVec.toInt_ofInt_eq_self (by decide) (by norm_num) (by norm_num)] at this

/-- The chunk numbers the reference returns: 0 where its list holds −1. -/
theorem chunk_apply (b : Fin 2) (p : Fin 4096) (h : Fin 8) (j : Fin 16) :
    val_main_v46 (F := Ideal) X L P W (ix4 b p h j) = BitVec.ofNat 32 (listed X L P W b p h j).toNat := by
  have e : val_main_call4_v1 (F := Ideal) (ix4 b p h j) = 0#32 := val_main_call4_v1_apply _
  rw [val_main_v46_apply, empty_apply, e, listed_apply, select_bit]
  obtain ⟨h1, h2⟩ := listed_bounds X L P W b p h j
  generalize listed X L P W b p h j = z at *
  split
  · next hz => rw [hz]; rfl
  · obtain ⟨n, rfl⟩ : ∃ n : ℕ, z = n := ⟨z.toNat, by omega⟩
    rw [BitVec.ofInt_natCast, Int.toNat_natCast]

/-- The look-up's index: it is not negative, so it stays. -/
theorem index_apply (b : Fin 2) (p : Fin 4096) (h : Fin 8) (j : Fin 16) :
    val_main_call5_v5 (F := Ideal) X L P W (ix5 b p h j 0) = BitVec.ofNat 32 (listed X L P W b p h j).toNat := by
  have ei : (idx_main_call5_v5 (ix5 b p h j 0) : S2x4096x8x16.Idx) = ix4 b p h j := funext fun a => match a with
    | ⟨0, _⟩ => Fin.ext (by show ((((b.val * 4096 + p.val) * 8 + h.val) * 16 + j.val) * 1 + 0) / 524288 = b.val; omega)
    | ⟨1, _⟩ => Fin.ext (by show ((((b.val * 4096 + p.val) * 8 + h.val) * 16 + j.val) * 1 + 0) / 128 % 4096 = p.val; omega)
    | ⟨2, _⟩ => Fin.ext (by show ((((b.val * 4096 + p.val) * 8 + h.val) * 16 + j.val) * 1 + 0) / 16 % 8 = h.val; omega)
    | ⟨3, _⟩ => Fin.ext (by show ((((b.val * 4096 + p.val) * 8 + h.val) * 16 + j.val) * 1 + 0) % 16 = j.val; omega)
  have e0 : val_main_call5_v0 (F := Ideal) (ix4 b p h j) = BitVec.ofNat 32 0 := val_main_call5_v0_apply _
  rw [val_main_call5_v5_apply, ei, val_main_call5_v4_apply, val_main_call5_v1_apply, e0, chunk_apply]
  obtain ⟨h1, h2⟩ := listed_bounds X L P W b p h j
  show Scalar.select (BitVec.ofBool ((BitVec.ofNat 32 _).slt (BitVec.ofNat 32 0))) _ _ = _
  rw [slt_ofNat (by omega) (by omega), decide_eq_false (by omega)]
  rfl

/-- Every index is in range. -/
theorem inRange_apply (b : Fin 2) (p : Fin 4096) (h : Fin 8) (j : Fin 16) : val_main_call5_v11 (F := Ideal) X L P W (ix5 b p h j 0) = 1#1 := by
  have e6 : val_main_call5_v6 (F := Ideal) (ix5 b p h j 0) = BitVec.ofNat 32 0 := val_main_call5_v6_apply _
  have e9 : val_main_call5_v9 (F := Ideal) (ix5 b p h j 0) = BitVec.ofNat 32 63 := (val_main_call5_v9_apply _).trans (val_main_call5_v8_apply _)
  rw [val_main_call5_v11_apply, val_main_call5_v7_apply, val_main_call5_v10_apply, e6, e9, index_apply]
  obtain ⟨h1, h2⟩ := listed_bounds X L P W b p h j
  show IntOp.andi (BitVec.ofBool ((BitVec.ofNat 32 0).sle (BitVec.ofNat 32 _))) (BitVec.ofBool ((BitVec.ofNat 32 _).sle (BitVec.ofNat 32 63))) = 1#1
  rw [sle_ofNat (by omega) (by omega), sle_ofNat (by omega) (by omega), decide_eq_true (by omega), decide_eq_true (by omega)]
  rfl

theorem inRange_all (i : S2x4096x8x16x1.Idx) : val_main_call5_v11 (F := Ideal) X L P W i = 1#1 := by
  have h0 : i 4 = (0 : Fin 1) := Subsingleton.elim (α := Fin 1) _ _
  have e : i = ix5 (i 0) (i 1) (i 2) (i 3) 0 := (eq_ix5 i).trans (congrArg (ix5 (i 0) (i 1) (i 2) (i 3)) h0)
  rw [e]
  exact inRange_apply X L P W (i 0) (i 1) (i 2) (i 3)

theorem inRange_row (i : S2x4096x8x16.Idx) : val_main_call5_v12 (F := Ideal) X L P W i = 1#1 := by
  unfold val_main_call5_v12
  have hy := inRange_all X L P W
  generalize val_main_call5_v11 (F := Ideal) X L P W = y at hy
  unfold Host.reduce
  exact foldl_andi _ (fun n => y (S2x4096x8x16x1.rowMajor.symm n)) fun n => hy _

/-- The scores in the order of the list. -/
def listScore (b : Fin 2) (p : Fin 4096) (h : Fin 8) (j : Fin 16) : EReal :=
  if listed X L P W b p h j = -1 then ⊥ else argScore X L P W b p h (listed X L P W b p h j).toNat

theorem gathered_apply (b : Fin 2) (p : Fin 4096) (h : Fin 8) (j : Fin 16) (hS : Clear (argScore X L P W b p h) (p.val / 64)) :
    val_main_v48 (F := Ideal) X L P W (ix4 b p h j) = listScore X L P W b p h j := by
  obtain ⟨h1, h2⟩ := listed_bounds X L P W b p h j
  have e1 : val_main_call6_v1 (F := Ideal) (ix4 b p h j) = ⊥ := (val_main_call6_v1_apply _).trans c_bot
  have e13 : val_main_call5_v13 (F := Ideal) X L P W (ix4 b p h j) = masked 64 (argScore X L P W b p h) (p.val / 64) ⟨(listed X L P W b p h j).toNat, by omega⟩ := by
    unfold val_main_call5_v13
    refine (lookup_apply _ _ b p h j ⟨(listed X L P W b p h j).toNat, by omega⟩ (index_apply X L P W b p h j)).trans ?_
    exact masked_apply X L P W b p h _
  rw [val_main_v48_apply, empty_apply, e1, val_main_v47_apply, inRange_row, e13, select_bit]
  unfold listScore
  split
  · rfl
  · next hne =>
    show masked 64 (argScore X L P W b p h) (p.val / 64) _ = _
    rcases (lists_falling (by omega) hS).mem j with hz | ⟨d, hd, hz⟩
    · exact absurd hz hne
    · have hd' := Finset.mem_range.1 (kept_subset _ _ hd)
      have ht : (listed X L P W b p h j).toNat = d := by
        have : listed X L P W b p h j = d := hz
        omega
      rw [masked, if_pos (by show (listed X L P W b p h j).toNat < _; omega)]

end Cert.ReferenceIdeal.Final

end
-- ==== Proof.RefWeights.lean ====
/- The reference's results: stick lengths, their running sum, and the weights. -/
module

public import proofs.«01_k».proof.Proof.RefGather

@[expose] public section

set_option maxRecDepth 16384

noncomputable section

namespace Cert.ReferenceIdeal.Final

open Idealize.ShloMosaic Idealize.ShloMosaic.TcCoe Idealize.ShloMosaic.ValueIdx
open Cert.ReferenceIdeal Cert.ReferenceIdeal.Gen Cert.ReferenceIdeal.Read Cert.Spec Cert.Head

/-! ## The running sum -/

/-- A left fold of additions is the sum. -/
theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The windows of the running sum. -/
abbrev Win : Shape := ⟨4, ![1, 1, 1, 16]⟩

/-- A window of sixteen, padded low by fifteen zeros, sums what is not after the place. -/
theorem runningSum_apply (x : S2x4096x8x16.Idx → EReal) (init : S_.Idx → EReal) (h0 : init (Shape.Idx.first h_S_) = 0) (hw) (b : Fin 2) (p : Fin 4096) (h : Fin 8) (j : Fin 16) :
    Host.reduceWindowAdd (F := Ideal) (φ := .f32) ![1, 1, 1, 16] ![1, 1, 1, 1] ![0, 0, 0, 15] ![0, 0, 0, 0] x init hw h_S_ (ix4 b p h j)
      = ∑ i ∈ Finset.univ.filter (fun i : Fin 16 => i ≤ j), x (ix4 b p h i) := by
  let g : Win.Idx → EReal := fun w =>
    if hin : ∀ a : Fin 4, (![0, 0, 0, 15] : Fin 4 → ℕ) a ≤ ((ix4 b p h j : S2x4096x8x16.Idx) a).val * (![1, 1, 1, 1] : Fin 4 → ℕ) a + (w a).val
        ∧ ((ix4 b p h j : S2x4096x8x16.Idx) a).val * (![1, 1, 1, 1] : Fin 4 → ℕ) a + (w a).val - (![0, 0, 0, 15] : Fin 4 → ℕ) a < S2x4096x8x16.size a
    then x (fun a => ⟨((ix4 b p h j : S2x4096x8x16.Idx) a).val * (![1, 1, 1, 1] : Fin 4 → ℕ) a + (w a).val - (![0, 0, 0, 15] : Fin 4 → ℕ) a, (hin a).2⟩) else 0
  have e1 : Host.reduceWindowAdd (F := Ideal) (φ := .f32) ![1, 1, 1, 16] ![1, 1, 1, 1] ![0, 0, 0, 15] ![0, 0, 0, 0] x init hw h_S_ (ix4 b p h j)
      = (List.finRange Win.numel).foldl (fun r n => r + g (Win.rowMajor.symm n)) 0 := by
    unfold Host.reduceWindowAdd
    rw [h0, Ideal.hostReduceWindowAdd_def]
    unfold Ideal.hostReduceWindowAdd Host.reduceWindow
    refine congrArg (fun q : EReal → Fin Win.numel → EReal => List.foldl q 0 (List.finRange Win.numel)) (funext fun r => funext fun n => congrArg (fun q : EReal => r + q) ?_)
    exact dite_congr rfl (fun _ => rfl) (fun _ => rfl)
  rw [e1, foldl_add, zero_add, ← Fin.sum_univ_def (fun n => g (Win.rowMajor.symm n)), Equiv.sum_comp Win.rowMajor.symm g]
  symm
  have hpos : ∀ i : Fin 16, i ≤ j → i.val + 15 - j.val < 16 := fun i hi => by
    have : i.val ≤ j.val := hi
    omega
  refine Finset.sum_of_injOn (fun i : Fin 16 => (ix4 (0 : Fin 1) (0 : Fin 1) (0 : Fin 1) (⟨min 15 (i.val + 15 - j.val), by omega⟩ : Fin 16) : Win.Idx)) ?_ (fun _ _ => Finset.mem_coe.2 (Finset.mem_univ _)) ?_ ?_
  · intro i hi k hk hik
    have hi' : i.val ≤ j.val := (Finset.mem_filter.1 (Finset.mem_coe.1 hi)).2
    have hk' : k.val ≤ j.val := (Finset.mem_filter.1 (Finset.mem_coe.1 hk)).2
    have := congrArg Fin.val (congrFun hik 3)
    change min 15 (i.val + 15 - j.val) = min 15 (k.val + 15 - j.val) at this
    exact Fin.ext (by omega)
  · intro w _ hwi
    refine dif_neg fun hin => hwi ?_
    have h3 := hin 3
    change 15 ≤ j.val * 1 + (w 3).val ∧ j.val * 1 + (w 3).val - 15 < 16 at h3
    have hw3 : (w 3).val < 16 := (w 3).isLt
    refine ⟨⟨j.val + (w 3).val - 15, by omega⟩, Finset.mem_coe.2 (Finset.mem_filter.2 ⟨Finset.mem_univ _, ?_⟩), ?_⟩
    · show j.val + (w 3).val - 15 ≤ j.val
      omega
    · funext a
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => exact Fin.ext (by show min 15 (j.val + (w 3).val - 15 + 15 - j.val) = (w 3).val; omega)
  · intro i hi
    have hi' : i.val ≤ j.val := (Finset.mem_filter.1 hi).2
    have hin : ∀ a : Fin 4, (![0, 0, 0, 15] : Fin 4 → ℕ) a ≤ ((ix4 b p h j : S2x4096x8x16.Idx) a).val * (![1, 1, 1, 1] : Fin 4 → ℕ) a
          + ((ix4 (0 : Fin 1) (0 : Fin 1) (0 : Fin 1) (⟨min 15 (i.val + 15 - j.val), by omega⟩ : Fin 16) : Win.Idx) a).val
        ∧ ((ix4 b p h j : S2x4096x8x16.Idx) a).val * (![1, 1, 1, 1] : Fin 4 → ℕ) a
          + ((ix4 (0 : Fin 1) (0 : Fin 1) (0 : Fin 1) (⟨min 15 (i.val + 15 - j.val), by omega⟩ : Fin 16) : Win.Idx) a).val - (![0, 0, 0, 15] : Fin 4 → ℕ) a < S2x4096x8x16.size a := by
      intro a
      match a with
      | ⟨0, _⟩ => show 0 ≤ b.val * 1 + 0 ∧ b.val * 1 + 0 - 0 < 2; omega
      | ⟨1, _⟩ => show 0 ≤ p.val * 1 + 0 ∧ p.val * 1 + 0 - 0 < 4096; omega
      | ⟨2, _⟩ => show 0 ≤ h.val * 1 + 0 ∧ h.val * 1 + 0 - 0 < 8; omega
      | ⟨3, _⟩ => show 15 ≤ j.val * 1 + min 15 (i.val + 15 - j.val) ∧ j.val * 1 + min 15 (i.val + 15 - j.val) - 15 < 16; omega
    refine Eq.symm ((dif_pos hin).trans (congrArg x (funext fun a => Fin.ext ?_)))
    match a with
    | ⟨0, _⟩ => show b.val * 1 + 0 - 0 = b.val; omega
    | ⟨1, _⟩ => show p.val * 1 + 0 - 0 = p.val; omega
    | ⟨2, _⟩ => show h.val * 1 + 0 - 0 = h.val; omega
    | ⟨3, _⟩ => show j.val * 1 + min 15 (i.val + 15 - j.val) - 15 = i.val; omega

/-! ## The stick lengths -/

/-- The overflow-safe form of `log (1 + exp t)`. -/
theorem softplus_eq {t : EReal} (ht : t ≠ ⊤) : max t 0 + Ideal.log1p (Ideal.exp (-max (t - 0) (-(t - 0)))) = Ideal.log1p (Ideal.exp t) := by
  rw [sub_zero]
  induction t with
  | top => exact absurd rfl ht
  | bot =>
    rw [EReal.neg_bot, max_eq_right bot_le, max_eq_right bot_le, EReal.neg_top, log1p_exp_bot, add_zero]
  | coe r =>
    have hmax : ∀ a c : ℝ, max (a : EReal) (c : EReal) = ((max a c : ℝ) : EReal) := fun a c => (EReal.coe_strictMono.monotone.map_max).symm
    rw [← EReal.coe_neg, hmax, ← EReal.coe_neg, log1p_exp_coe, log1p_exp_coe, show (0 : EReal) = ((0 : ℝ) : EReal) from rfl, hmax, ← EReal.coe_add]
    congr 1
    rcases le_total 0 r with h | h
    · rw [max_eq_left h, max_eq_left (by linarith)]
      have : r + Real.log (1 + Real.exp (-r)) = Real.log (Real.exp r * (1 + Real.exp (-r))) := by
        rw [Real.log_mul (Real.exp_pos r).ne' (by positivity), Real.log_exp]
      rw [this, mul_add, ← Real.exp_add, add_neg_cancel, Real.exp_zero, mul_one, add_comm]
    · rw [max_eq_right h, max_eq_right (by linarith), neg_neg, zero_add]

variable (X : S2x4096x2048.Idx → EReal) (L : S2x64x8x64.Idx → EReal) (P : S2048.Idx → EReal) (W : S512x2048.Idx → EReal)

/-- The stick length of a listed score. -/
theorem stick_apply (i : S2x4096x8x16.Idx) : val_main_v54 (F := Ideal) X L P W i = stick (val_main_v48 (F := Ideal) X L P W i) := by
  have e49 : val_main_v49 (F := Ideal) i = 15 := (val_main_v49_apply _).trans c_fifteen
  have e51 : val_main_v51 (F := Ideal) i = 15 := (val_main_v51_apply _).trans c_fifteen
  have e0 : val_main_call7_v0 (F := Ideal) i = 0 := (val_main_call7_v0_apply _).trans Ideal.ofBits_zero_f32
  have e2 : val_main_call7_v2 (F := Ideal) i = 0 := (val_main_call7_v2_apply _).trans Ideal.ofBits_zero_f32
  rw [val_main_v54_apply, val_main_v53_apply, val_main_v50_apply, e49, val_main_call7_v4_apply, val_main_call7_v11_apply, val_main_call7_v1_apply, val_main_call7_v10_apply,
    val_main_call7_v9_apply, val_main_call7_v8_apply, val_main_call7_v7_apply, val_main_call7_v3_apply, e0, e2, val_main_v52_apply, e51]
  generalize val_main_v48 (F := Ideal) X L P W i = s
  generalize val_main_call7_v6 (F := Ideal) X L P W i = u
  have hne : FloatOps.cmpf (F := Ideal) (φ := .f32) .une (FloatOps.subf (F := Ideal) (φ := .f32) (FloatOps.minimumf (F := Ideal) (φ := .f32) s (15 : EReal)) (0 : EReal)) (FloatOps.subf (F := Ideal) (φ := .f32) (FloatOps.minimumf (F := Ideal) (φ := .f32) s (15 : EReal)) (0 : EReal)) = 0#1 := by
    generalize FloatOps.subf (F := Ideal) (φ := .f32) (FloatOps.minimumf (F := Ideal) (φ := .f32) s (15 : EReal)) (0 : EReal) = z
    show BitVec.ofBool (decide (z ≠ z)) = 0#1
    simp
  refine (congrArg (fun q => Scalar.select _ s (Scalar.select q _ _)) hne).trans ?_
  show Scalar.select (bit ((15 : EReal) < s)) s (max (min s 15) 0 + Ideal.log1p (Ideal.exp (-max (min s 15 - 0) (-(min s 15 - 0))))) = stick s
  rw [softplus_eq (ne_top_of_le_ne_top (by decide) (min_le_right s 15)), select_bit]
  rfl

/-! ## The results -/

/-- The weights the reference returns. -/
theorem result_W (b : Fin 2) (p : Fin 4096) (h : Fin 8) (j : Fin 16) (hS : Clear (argScore X L P W b p h) (p.val / 64)) :
    val_main_v57 (F := Ideal) X L P W (ix4 b p h j)
      = slotWeight (argScore X L P W b p h) (kept (argScore X L P W b p h) (p.val / 64)) j.val := by
  have hl := lists_falling (by omega) hS
  have e55 : val_main_v55 (F := Ideal) X L P W (ix4 b p h j)
      = ∑ i ∈ Finset.univ.filter (fun i : Fin 16 => i ≤ j), stick (listScore X L P W b p h i) := by
    unfold val_main_v55
    refine (runningSum_apply _ _ ((val_main_call9_call0_v0_apply _).trans ((val_main_call9_call0_cst_apply _).trans Ideal.ofBits_zero_f32)) _ b p h j).trans ?_
    refine Finset.sum_congr rfl fun i _ => ?_
    rw [stick_apply, gathered_apply X L P W b p h i hS]
  rw [val_main_v57_apply, val_main_v56_apply, gathered_apply X L P W b p h j hS, e55]
  show Ideal.exp (listScore X L P W b p h j - _) = _
  rcases hl.mem j with hz | ⟨d, hd, hz⟩
  · have hz' : listed X L P W b p h j = -1 := hz
    rw [slotWeight_empty (hl.place_empty hz), listScore, if_pos hz', EReal.bot_sub, Ideal.exp_bot]
  · have hz' : listed X L P W b p h j = d := hz
    rw [slotWeight_of hd (hl.place_eq hd hz), weight, ← hl.sum_le hz (fun e => stick (argScore X L P W b p h e))]
    have hs : ∀ i : Fin 16, i ≤ j → listScore X L P W b p h i = argScore X L P W b p h (listed X L P W b p h i).toNat := by
      intro i hi
      have h1 : listed X L P W b p h j ≤ listed X L P W b p h i := by
        rcases hi.eq_or_lt with rfl | hi
        · exact le_refl _
        · exact hl.anti i j hi
      rw [listScore, if_neg (by omega)]
    have hj : listScore X L P W b p h j = argScore X L P W b p h d := by
      rw [hs j (le_refl _), hz', Int.toNat_natCast]
    rw [hj]
    refine congrArg (fun q => Ideal.exp (argScore X L P W b p h d - q)) (Finset.sum_congr rfl fun i hi => ?_)
    rw [hs i (Finset.mem_filter.1 hi).2]

/-- The chunk numbers the reference returns. -/
theorem result_I (b : Fin 2) (p : Fin 4096) (h : Fin 8) (j : Fin 16) (hS : Clear (argScore X L P W b p h) (p.val / 64)) :
    val_main_v46 (F := Ideal) X L P W (ix4 b p h j)
      = BitVec.ofNat 32 (slotChunk (kept (argScore X L P W b p h) (p.val / 64)) j.val) := by
  have hl := lists_falling (by omega) hS
  rw [chunk_apply]
  rcases hl.mem j with hz | ⟨d, hd, hz⟩
  · have hz' : listed X L P W b p h j = -1 := hz
    rw [slotChunk_empty (hl.place_empty hz), hz']
    rfl
  · have hz' : listed X L P W b p h j = d := hz
    rw [slotChunk_of hd (hl.place_eq hd hz), hz', Int.toNat_natCast]

end Cert.ReferenceIdeal.Final

end
-- ==== Proof.Distinct.lean ====
/- What the precondition says of the scores. -/
module

public import proofs.«01_k».proof.Pre_distinct_scores
public import proofs.«01_k».proof.Proof.RefScores

@[expose] public section

set_option maxRecDepth 16384

noncomputable section

namespace Cert.Distinct

open Idealize.ShloMosaic Idealize.ShloMosaic.TcCoe Idealize.ShloMosaic.ValueIdx
open Cert.Pre_distinct_scores Cert.Spec Cert.Head

/-- The side conditions of the precondition's operations. -/
instance facts : Cert.Pre_distinct_scores.Facts where
  reducesTo_S2x4096x2048_S2x4096_d2 := by decide
  h_S_ := by decide
  bcast_S2x4096_S2x4096x1_0_1 := by decide
  bcast_S_S2x4096x1 := by decide
  bcast_S2x4096x1_S2x4096x2048_0_1_2 := by decide
  bcast_S2048_S1x1x2048_2 := by decide
  bcast_S1x1x2048_S2x4096x2048_0_1_2 := by decide
  transposes_S512x2048_S2048x512_1_0 := by decide
  shapeCasts_S2x4096x512_S2x4096x8x64 := by decide
  transposes_S2x8x64x4096_S2x4096x8x64_0_3_1_2 := by decide
  bcast_S_S2x4096x8x64 := by decide
  bcast_S_S2x4096x8x64x64 := by decide
  bcast_S2x4096x8x64_S2x4096x8x1x64_0_1_2_4 := by decide
  bcast_S2x4096x8x1x64_S2x4096x8x64x64_0_1_2_3_4 := by decide
  bcast_S2x4096x8x64_S2x4096x8x64x1_0_1_2_3 := by decide
  bcast_S2x4096x8x64x1_S2x4096x8x64x64_0_1_2_3_4 := by decide
  dot_S2x4096x2048_S2048x512_S2x4096x512_2_0_01_1_n_n_wf := by decide
  dot_S2x64x8x64_S2x4096x8x64_S2x8x64x4096_3_3_1_1_02_02_wf := by decide

/-- The scores that the precondition compares are the reference's. -/
theorem fn_eq (X : S2x4096x2048.Idx → EReal) (L : S2x64x8x64.Idx → EReal) (P : S2048.Idx → EReal) (W : S512x2048.Idx → EReal) :
    fn (F := Ideal) X L P W = fn_part1 (F := Ideal) (Cert.ReferenceIdeal.Read.val_main_v19 (F := Ideal) X L P W) := rfl

/-- A score against another chunk's, or against −∞ where the chunks are the same. -/
theorem other_apply (s : S2x4096x8x64.Idx → EReal) (q : IVec S2x4096x8x64x64 1) (b : Fin 2) (p : Fin 4096) (h : Fin 8) (d e : Fin 64) :
    fn_where (F := Ideal) q (constant (F := Ideal) S_ .f32 0xFF800000#32) (broadcastInDim S2x4096x8x1x64 ![0, 1, 2, 4] Facts.bcast_S2x4096x8x64_S2x4096x8x1x64_0_1_2_4 s) (ix5 b p h d e)
      = Scalar.select (q (ix5 b p h d e)) (⊥ : EReal) (s (ix4 b p h e)) := by
  have e1 : broadcastInDim S2x4096x8x64x64 ![] Facts.bcast_S_S2x4096x8x64x64 (id (constant (F := Ideal) S_ .f32 0xFF800000#32)) (ix5 b p h d e) = (⊥ : EReal) :=
    (broadcastInDim_scalar_apply _ _ _).trans c_bot
  have e2 : broadcastInDim S2x4096x8x64x64 ![0, 1, 2, 3, 4] Facts.bcast_S2x4096x8x1x64_S2x4096x8x64x64_0_1_2_3_4
      (broadcastInDim S2x4096x8x1x64 ![0, 1, 2, 4] Facts.bcast_S2x4096x8x64_S2x4096x8x1x64_0_1_2_4 s) (ix5 b p h d e) = s (ix4 b p h e) := by
    refine (broadcastInDim_apply _ _ _ _ (ix5 b p h (0 : Fin 1) e) fun a => ?_).trans (broadcastInDim_apply _ _ _ _ (ix4 b p h e) fun a => ?_)
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
  show Scalar.select (q (ix5 b p h d e)) _ _ = _
  rw [e1, e2]

/-- A chunk's score, spread over the pairs. -/
theorem own_apply (s : S2x4096x8x64.Idx → EReal) (b : Fin 2) (p : Fin 4096) (h : Fin 8) (d e : Fin 64) :
    broadcastInDim S2x4096x8x64x64 ![0, 1, 2, 3, 4] Facts.bcast_S2x4096x8x64x1_S2x4096x8x64x64_0_1_2_3_4
      (broadcastInDim S2x4096x8x64x1 ![0, 1, 2, 3] Facts.bcast_S2x4096x8x64_S2x4096x8x64x1_0_1_2_3 s) (ix5 b p h d e) = s (ix4 b p h d) := by
  refine (broadcastInDim_apply _ _ _ _ (ix5 b p h d (0 : Fin 1)) fun a => ?_).trans (broadcastInDim_apply _ _ _ _ (ix4 b p h d) fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

/-- The greater of two small words. -/
theorem maxsi_ofNat {a c : ℕ} (ha : a < 2 ^ 31) (hc : c < 2 ^ 31) : IntOp.maxsi (BitVec.ofNat 32 a) (BitVec.ofNat 32 c) = BitVec.ofNat 32 (max a c) := by
  unfold IntOp.maxsi
  rw [slt_ofNat hc ha]
  by_cases h : c < a
  · rw [if_pos (by simpa using h), max_eq_left h.le]
  · rw [if_neg (by simpa using h), max_eq_right (by omega)]

/-- The precondition at a pair of chunks: few are visible, or one of the two is not, or the scores differ. -/
theorem pair_apply (s : S2x4096x8x64.Idx → EReal) (b : Fin 2) (p : Fin 4096) (h : Fin 8) (d e : Fin 64) :
    fn_part1 (F := Ideal) s (ix5 b p h d e)
      = BitVec.ofBool ((decide (p.val < 1088) || decide (p.val < (max d.val e.val + 1) * 64)) || decide (s (ix4 b p h d) ≠ if d = e then ⊥ else s (ix4 b p h e))) := by
  have e0 : IntOp.cmpi .slt (BitVec.ofNat 32 p.val) 1088#32 = BitVec.ofBool (decide (p.val < 1088)) :=
    congrArg BitVec.ofBool (slt_ofNat (a := p.val) (b := 1088) (by omega) (by norm_num))
  have e1 : IntOp.cmpi .slt (BitVec.ofNat 32 p.val) (IntOp.muli (IntOp.addi (IntOp.maxsi (BitVec.ofNat 32 d.val) (BitVec.ofNat 32 e.val)) 1#32) 64#32)
      = BitVec.ofBool (decide (p.val < (max d.val e.val + 1) * 64)) := by
    rw [maxsi_ofNat (by omega) (by omega)]
    have : IntOp.muli (IntOp.addi (BitVec.ofNat 32 (max d.val e.val)) 1#32) 64#32 = BitVec.ofNat 32 ((max d.val e.val + 1) * 64) := by
      rw [BitVec.ofNat_mul, BitVec.ofNat_add]; rfl
    rw [this]
    exact congrArg BitVec.ofBool (slt_ofNat (by omega) (by omega))
  have e2 : IntOp.cmpi .eq (BitVec.ofNat 32 d.val) (BitVec.ofNat 32 e.val) = bit (d = e) := by
    refine (congrArg BitVec.ofBool (beq_ofNat (by omega) (by omega))).trans (congrArg BitVec.ofBool ?_)
    rw [decide_eq_decide, Fin.ext_iff]
  have c0 : ∀ w : BitVec 32, broadcastInDim S2x4096x8x64x64 ![] Facts.bcast_S_S2x4096x8x64x64 (constantI S_ 32 w) (ix5 b p h d e) = w := fun w => broadcastInDim_scalar_apply _ _ _
  unfold fn_part1
  show IntOp.ori (IntOp.ori (IntOp.cmpi .slt (BitVec.ofNat 32 p.val) _) (IntOp.cmpi .slt (BitVec.ofNat 32 p.val) (IntOp.muli (IntOp.addi (IntOp.maxsi (BitVec.ofNat 32 d.val) (BitVec.ofNat 32 e.val)) _) _)))
    (FloatOps.cmpf (F := Ideal) (φ := .f32) .une _ _) = _
  rw [c0, c0, c0, e0, e1, own_apply, other_apply]
  show IntOp.ori (IntOp.ori _ _) (FloatOps.cmpf (F := Ideal) (φ := .f32) .une (s (ix4 b p h d)) (Scalar.select (IntOp.cmpi .eq (BitVec.ofNat 32 d.val) (BitVec.ofNat 32 e.val)) ⊥ (s (ix4 b p h e)))) = _
  rw [e2, select_bit, WordArith.ori_ofBool]
  exact WordArith.ori_ofBool _ _

/-- The precondition says that wherever more than sixteen chunks are visible, their scores are not −∞ and no two are equal. -/
theorem clear_of_pre (X : S2x4096x2048.Idx → EReal) (L : S2x64x8x64.Idx → EReal) (P : S2048.Idx → EReal) (W : S512x2048.Idx → EReal)
    (hpre : fn (F := Ideal) X L P W = fun _ => 1#1) (b : Fin 2) (p : Fin 4096) (h : Fin 8) : Clear (argScore X L P W b p h) (p.val / 64) := by
  intro hn
  have key : ∀ d e : Fin 64, d.val < p.val / 64 → e.val < p.val / 64 → argScore X L P W b p h d.val ≠ if d = e then ⊥ else argScore X L P W b p h e.val := by
    intro d e hd he
    have h1 := congrFun hpre (ix5 b p h d e)
    rw [fn_eq, pair_apply, WordArith.ofBool_eq_one_iff, Cert.ReferenceIdeal.Final.score_apply, Cert.ReferenceIdeal.Final.score_apply, decide_eq_false (by omega : ¬ p.val < 1088),
      decide_eq_false (by omega : ¬ p.val < (max d.val e.val + 1) * 64)] at h1
    simpa using h1
  have hp : p.val / 64 ≤ 64 := by omega
  refine ⟨fun d hd => ?_, fun d hd e he hde => ?_⟩
  · have := key ⟨d, by omega⟩ ⟨d, by omega⟩ hd hd
    rwa [if_pos rfl] at this
  · by_contra hne
    have := key ⟨d, by omega⟩ ⟨e, by omega⟩ hd he
    rw [if_neg (fun hq => hne (Fin.mk.inj hq))] at this
    exact this hde

end Cert.Distinct

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelResult
public import proofs.«01_k».proof.Proof.RefWeights
public import proofs.«01_k».proof.Proof.Distinct
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The reference terminates with its arguments unchanged and every counter at zero. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2.2, sem_eq_zero_of_no_sems (by decide) r.2⟩) (Cert.ReferenceIdeal.Value.run (F := Ideal) m ρ)

/-- Where the scores are distinct, the weights that the two programs return are the same. -/
theorem weights_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hS : ∀ b p h, Cert.Spec.Clear (Cert.KernelIdeal.Final.memScore m c b p h) (p.val / 64)) :
    Cert.ReferenceIdeal.Read.val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
      = Cert.KernelIdeal.Gen.W6 m ρ c (Proc.devRef .tc Cert.KernelIdeal.main_v9) := by
  funext i
  have hi : i = ix4 (i 0) (i 1) (i 2) (i 3) := funext fun a => match a with
    | ⟨0, _⟩ => rfl
    | ⟨1, _⟩ => rfl
    | ⟨2, _⟩ => rfl
    | ⟨3, _⟩ => rfl
  rw [hi]
  exact (Cert.ReferenceIdeal.Final.result_W _ _ _ _ _ _ _ _ (hS _ _ _)).trans (Cert.KernelIdeal.Final.result_W m ρ c _ _ _ _ (hS _ _ _)).symm

/-- Where the scores are distinct, the chunk numbers that the two programs return are the same. -/
theorem chunks_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hS : ∀ b p h, Cert.Spec.Clear (Cert.KernelIdeal.Final.memScore m c b p h) (p.val / 64)) :
    Cert.ReferenceIdeal.Read.val_main_v46 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
      = Cert.KernelIdeal.Gen.W6 m ρ c (Proc.devRef .tc Cert.KernelIdeal.main_v10) := by
  funext i
  have hi : i = ix4 (i 0) (i 1) (i 2) (i 3) := funext fun a => match a with
    | ⟨0, _⟩ => rfl
    | ⟨1, _⟩ => rfl
    | ⟨2, _⟩ => rfl
    | ⟨3, _⟩ => rfl
  rw [hi]
  exact (Cert.ReferenceIdeal.Final.result_I _ _ _ _ _ _ _ _ (hS _ _ _)).trans (Cert.KernelIdeal.Final.result_I m ρ c _ _ _ _ (hS _ _ _)).symm

/-- The kernel and the reference compute the same results. -/
theorem same_results : Cert.algebraic_KernelIdeal_ReferenceIdeal_pre_distinct_scores (hKernelIdeal := Cert.KernelIdeal.Gen.facts) (hReferenceIdeal := Cert.ReferenceIdeal.Gen.facts) (hPre_distinct_scores := Cert.Distinct.facts) := by
  intro m g m' g' hpre hargs
  have hS : ∀ c b p h, Cert.Spec.Clear (Cert.KernelIdeal.Final.memScore m c b p h) (p.val / 64) :=
    fun c b p h => Cert.Distinct.clear_of_pre _ _ _ _ (hpre c) b p h
  refine ⟨fun c => m ((c.tc : Thread Cert.KernelIdeal.nD Cert.KernelIdeal.τ).loc Cert.KernelIdeal.main_arg0),
    fun c => Cert.KernelIdeal.Gen.W6 m g c (Proc.devRef .tc Cert.KernelIdeal.main_v9),
    fun c => m ((c.tc : Thread Cert.KernelIdeal.nD Cert.KernelIdeal.τ).loc Cert.KernelIdeal.main_arg1),
    fun c => Cert.KernelIdeal.Gen.W6 m g c (Proc.devRef .tc Cert.KernelIdeal.main_v10), ?_, ?_⟩
  · refine (θ_run Cert.KernelIdeal.defs _ _).mono (fun r h c => ?_) (Cert.KernelIdeal.Final.run m g)
    have a0 := (h c _ (Cert.KernelIdeal.Gen.mem_uc Cert.KernelIdeal.main_arg0 (by decide))).trans (Cert.KernelIdeal.Gen.W6_main_arg0 m g c)
    have a1 := (h c _ (Cert.KernelIdeal.Gen.mem_uc Cert.KernelIdeal.main_arg1 (by decide))).trans (Cert.KernelIdeal.Gen.W6_main_arg1 m g c)
    have a2 := (h c _ (Cert.KernelIdeal.Gen.mem_uc Cert.KernelIdeal.main_arg2 (by decide))).trans (Cert.KernelIdeal.Gen.W6_main_arg2 m g c)
    have a3 := (h c _ (Cert.KernelIdeal.Gen.mem_uc Cert.KernelIdeal.main_arg3 (by decide))).trans (Cert.KernelIdeal.Gen.W6_main_arg3 m g c)
    exact ⟨a0, h c _ (Cert.KernelIdeal.Gen.mem_uc Cert.KernelIdeal.main_v9 (by decide)), a1, h c _ (Cert.KernelIdeal.Gen.mem_uc Cert.KernelIdeal.main_v10 (by decide)), a0, a1, a2, a3⟩
  · refine (θ_run Cert.ReferenceIdeal.defs _ _).mono (fun r h c => ?_) (Cert.ReferenceIdeal.Value.run (F := Ideal) m' g')
    obtain ⟨h0, h1, h2, h3, hu⟩ := h c
    obtain ⟨q0, q1, q2, q3⟩ := hargs c
    refine ⟨hu.1.trans q0, ?_, hu.2.1.trans q1, ?_, hu⟩
    · refine (h1.trans (Cert.ReferenceIdeal.Read.val_main_v57_eq _)).trans (Eq.trans ?_ (weights_eq m g c (hS c)))
      show Cert.ReferenceIdeal.Read.val_main_v57 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [q0, q1, q2, q3]
    · refine (h3.trans (Cert.ReferenceIdeal.Read.val_main_v46_eq _)).trans (Eq.trans ?_ (chunks_eq m g c (hS c)))
      show Cert.ReferenceIdeal.Read.val_main_v46 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [q0, q1, q2, q3]

theorem claim : Cert.Claim :=
  ⟨Cert.Kernel.Gen.facts, Cert.KernelIdeal.Gen.facts, Cert.ReferenceIdeal.Gen.facts, Cert.Distinct.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, same_results⟩

end Cert.Proof

end
